-- ==== Defs.lean ====
def Pre_Kernel (m : (ℓ : Loc Cert.Kernel.nD Cert.Kernel.τ Cert.Kernel.sig) → Buf (Elt Bits) ℓ) : Prop :=
  True

def Pre_Kernel_fresh_rows [hPre_fresh_rows : Cert.Pre_fresh_rows.Facts] (m : (ℓ : Loc Cert.Kernel.nD Cert.Kernel.τ Cert.Kernel.sig) → Buf (Elt Bits) ℓ) : Prop :=
  ∀ c : Dev Cert.Kernel.nD,
    (Cert.Pre_fresh_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_Reference (m : (ℓ : Loc Cert.Reference.nD Cert.Reference.τ Cert.Reference.sig) → Buf (Elt Bits) ℓ) : Prop :=
  True

def Pre_Reference_fresh_rows [hPre_fresh_rows : Cert.Pre_fresh_rows.Facts] (m : (ℓ : Loc Cert.Reference.nD Cert.Reference.τ Cert.Reference.sig) → Buf (Elt Bits) ℓ) : Prop :=
  ∀ c : Dev Cert.Reference.nD,
    (Cert.Pre_fresh_rows.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_fresh_rows [hKernel : Cert.Kernel.Facts] [hPre_fresh_rows : Cert.Pre_fresh_rows.Facts] : Prop :=
  ∀ (m : (ℓ : Loc Cert.Kernel.nD Cert.Kernel.τ Cert.Kernel.sig) → Buf (Elt Bits) ℓ) (g : Dev Cert.Kernel.nD → PrngReg), Pre_Kernel_fresh_rows m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Reference_pre_fresh_rows [hReference : Cert.Reference.Facts] [hPre_fresh_rows : Cert.Pre_fresh_rows.Facts] : Prop :=
  ∀ (m : (ℓ : Loc Cert.Reference.nD Cert.Reference.τ Cert.Reference.sig) → Buf (Elt Bits) ℓ) (g : Dev Cert.Reference.nD → PrngReg), Pre_Reference_fresh_rows m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def bitexact_Kernel_Reference_pre_fresh_rows [hKernel : Cert.Kernel.Facts] [hReference : Cert.Reference.Facts] [hPre_fresh_rows : Cert.Pre_fresh_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_fresh_rows m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v7) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hReference : Cert.Reference.Facts) (hPre_fresh_rows : Cert.Pre_fresh_rows.Facts),
    quiescent_Kernel (hKernel := hKernel)
    ∧ quiescent_Kernel_pre_fresh_rows (hKernel := hKernel) (hPre_fresh_rows := hPre_fresh_rows)
    ∧ quiescent_Reference (hReference := hReference)
    ∧ quiescent_Reference_pre_fresh_rows (hReference := hReference) (hPre_fresh_rows := hPre_fresh_rows)
    ∧ bitexact_Kernel_Reference_pre_fresh_rows (hKernel := hKernel) (hReference := hReference) (hPre_fresh_rows := hPre_fresh_rows)
-- ==== Pre_fresh_rows.lean ====
abbrev S1x32x1x128 : Shape := ⟨4, ![1, 32, 1, 128]⟩
abbrev S1x32x8192x128 : Shape := ⟨4, ![1, 32, 8192, 128]⟩
abbrev S1x32x8191x128 : Shape := ⟨4, ![1, 32, 8191, 128]⟩
abbrev S_ : Shape := ⟨0, ![]⟩

class Facts : Prop where
  slices_S1x32x8192x128_S1x32x8191x128_0_0_1_0 : S1x32x8192x128.Slices ![0, 0, 1, 0] S1x32x8191x128
  bcast_S_S1x32x8191x128 : S_.BroadcastsInDim S1x32x8191x128 (![] : Fin 0 → Fin S1x32x8191x128.rank)

variable [Facts]

def fn {F : FTy → Type} [BitOps F] (main_arg0 : FVec F S1x32x1x128 .f16) (main_arg1 : FVec F S1x32x1x128 .f16) (main_arg2 : FVec F S1x32x8192x128 .f16) (main_arg3 : FVec F S1x32x8192x128 .f16) : IVec S1x32x8191x128 1 :=
  let main_v0 : FVec F S1x32x8191x128 .f16 := (extractStridedSlice S1x32x8191x128 ![0, 0, 1, 0] · slices_S1x32x8192x128_S1x32x8191x128_0_0_1_0) main_arg2
  let main_v1 : IVec S1x32x8191x128 16 := bitcastToInt main_v0
  let main_v2 : FVec F S1x32x8191x128 .f16 := (extractStridedSlice S1x32x8191x128 ![0, 0, 1, 0] · slices_S1x32x8192x128_S1x32x8191x128_0_0_1_0) main_arg3
  let main_v3 : IVec S1x32x8191x128 16 := bitcastToInt main_v2
  let main_c : IVec S_ 16 := constantI S_ 16 0#16
  let main_v4 : IVec S1x32x8191x128 16 := broadcastInDim S1x32x8191x128 ![] bcast_S_S1x32x8191x128 main_c
  let main_v5 : IVec S1x32x8191x128 1 := cmpi .eq main_v1 main_v4
  let main_c_0 : IVec S_ 16 := constantI S_ 16 0#16
  let main_v6 : IVec S1x32x8191x128 16 := broadcastInDim S1x32x8191x128 ![] bcast_S_S1x32x8191x128 main_c_0
  let main_v7 : IVec S1x32x8191x128 1 := cmpi .eq main_v3 main_v6
  let main_v8 : IVec S1x32x8191x128 1 := andi main_v5 main_v7
  main_v8
-- ==== Kernel.lean ====
abbrev S1x32x1x128 : Shape := ⟨4, ![1, 32, 1, 128]⟩
abbrev S1x32x8192x128 : Shape := ⟨4, ![1, 32, 8192, 128]⟩
abbrev S32x128 : Shape := ⟨2, ![32, 128]⟩
abbrev S64x8192x128 : Shape := ⟨3, ![64, 8192, 128]⟩
abbrev S64x8x128 : Shape := ⟨3, ![64, 8, 128]⟩
abbrev S4088x128 : Shape := ⟨2, ![4088, 128]⟩
abbrev S64 : Shape := ⟨1, ![64]⟩
abbrev S_ : Shape := ⟨0, ![]⟩
abbrev S1x128 : Shape := ⟨2, ![1, 128]⟩
abbrev S1x1x128 : Shape := ⟨3, ![1, 1, 128]⟩
abbrev S64x4096x128 : Shape := ⟨3, ![64, 4096, 128]⟩
abbrev S64x16x128 : Shape := ⟨3, ![64, 16, 128]⟩
abbrev S1 : Shape := ⟨1, ![1]⟩
abbrev S1x4088x128 : Shape := ⟨3, ![1, 4088, 128]⟩
abbrev S1x8176x128 : Shape := ⟨3, ![1, 8176, 128]⟩
abbrev S8176x128 : Shape := ⟨2, ![8176, 128]⟩
abbrev S2x1x32x8192x128 : Shape := ⟨5, ![2, 1, 32, 8192, 128]⟩

abbrev nBuf : Space → Nat
  | .hbm => 12
  | .vmem => 4
  | .smem => 0
  | _ => 0

abbrev bufTy : (tb : Table) → Fin (tcTables nBuf tb) → BufTy
  | .hbm, ⟨0, _⟩ => ⟨S1x32x1x128, .f16⟩
  | .hbm, ⟨1, _⟩ => ⟨S1x32x1x128, .f16⟩
  | .hbm, ⟨2, _⟩ => ⟨S1x32x8192x128, .f16⟩
  | .hbm, ⟨3, _⟩ => ⟨S1x32x8192x128, .f16⟩
  | .hbm, ⟨4, _⟩ => ⟨S32x128, .f16⟩
  | .hbm, ⟨5, _⟩ => ⟨S32x128, .i16⟩
  | .hbm, ⟨6, _⟩ => ⟨S32x128, .i32⟩
  | .hbm, ⟨7, _⟩ => ⟨S32x128, .f16⟩
  | .hbm, ⟨8, _⟩ => ⟨S32x128, .i16⟩
  | .hbm, ⟨9, _⟩ => ⟨S32x128, .i32⟩
  | .hbm, ⟨10, _⟩ => ⟨S64x8192x128, .f16⟩
  | .hbm, ⟨11, _⟩ => ⟨S2x1x32x8192x128, .f16⟩
  | .local _ .vmem, ⟨0, _⟩ => ⟨S32x128, .i32⟩
  | .local _ .vmem, ⟨1, _⟩ => ⟨S32x128, .i32⟩
  | .local _ .vmem, ⟨2, _⟩ => ⟨S64x8x128, .i32⟩
  | .local _ .vmem, ⟨3, _⟩ => ⟨S4088x128, .i32⟩
  | _, _ => ⟨S1x32x1x128, .f16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

abbrev stage0_0 : Fin 1 → Memref sig .tc .vmem S32x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S1x32x1x128 : Shape := ⟨4, ![1, 32, 1, 128]⟩
abbrev S1x32x8192x128 : Shape := ⟨4, ![1, 32, 8192, 128]⟩
abbrev S_ : Shape := ⟨0, ![]⟩
abbrev S1x1x32x8192x128 : Shape := ⟨5, ![1, 1, 32, 8192, 128]⟩
abbrev S2x1x32x8192x128 : Shape := ⟨5, ![2, 1, 32, 8192, 128]⟩

abbrev nBuf : Space → Nat
  | .hbm => 17
  | .vmem => 0
  | .smem => 0
  | _ => 0

abbrev bufTy : (tb : Table) → Fin (tcTables nBuf tb) → BufTy
  | .hbm, ⟨0, _⟩ => ⟨S1x32x1x128, .f16⟩
  | .hbm, ⟨1, _⟩ => ⟨S1x32x1x128, .f16⟩
  | .hbm, ⟨2, _⟩ => ⟨S1x32x8192x128, .f16⟩
  | .hbm, ⟨3, _⟩ => ⟨S1x32x8192x128, .f16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x32x8192x128, .f16⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1x32x8192x128, .f16⟩
  | .hbm, ⟨14, _⟩ => ⟨S1x1x32x8192x128, .f16⟩
  | .hbm, ⟨15, _⟩ => ⟨S1x1x32x8192x128, .f16⟩
  | .hbm, ⟨16, _⟩ => ⟨S2x1x32x8192x128, .f16⟩
  | _, _ => ⟨S1x32x1x128, .f16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== Proof.Loop.lean ====
/-
  Hand-written, untrusted. The kernel body `cc0__fill_body`, printed unrolled (64 row copies, 65 transfers, 65 waits), restated as
  the loops it was unrolled from: `fillLoop`, equal to the printed body by unfolding (`fill_eq`). The later modules prove one
  iteration of each loop, for every index.
-/
module

public import proofs.«01_k».proof.Proof.Gen.Kernel.Frame
public import proofs.«01_k».proof.Proof.Gen.Kernel.Skeleton
public import Idealize.ShloMosaic.Lib.Pipeline.Regions

@[expose] public section

set_option Elab.async false

noncomputable section

namespace Cert.Kernel.Hand

open Cert.Kernel Cert.Kernel.Gen
open Idealize.ShloMosaic Idealize.SL.Sem

variable {F : FTy → Type} [BitOps F]

/-- `f` run at the last `j` of the indices below `n`, in increasing order. -/
def lastly {E : Type → Type} (n : ℕ) (f : (k : ℕ) → k < n → Prog E PUnit) : (j : ℕ) → j ≤ n → Prog E PUnit
  | 0, _ => Prog.ret ⟨⟩
  | j + 1, h => Prog.bind (f (n - (j + 1)) (Nat.sub_lt (Nat.lt_of_lt_of_le (Nat.succ_pos j) h) (Nat.succ_pos j))) fun _ =>
      lastly n f j (Nat.le_of_succ_le h)

/-- `f` run at every index below `n`, in increasing order. -/
def upto {E : Type → Type} (n : ℕ) (f : (k : ℕ) → k < n → Prog E PUnit) : Prog E PUnit := lastly n f n (Nat.le_refl n)

/-! ## The rectangles at index `k` -/

/-- Row `k` of a token array. -/
theorem rowInb {k : ℕ} (h : k < 32) : ∀ a, (![k, 0] : Fin 2 → ℕ) a + S1x128.size a ≤ S32x128.size a := by
  intro a; fin_cases a <;> simp <;> omega
/-- Row 0 of plane `p` of the slab scratch. -/
theorem slabInb {p : ℕ} (h : p < 64) : ∀ a, (![p, 0, 0] : Fin 3 → ℕ) a + S1x1x128.size a ≤ S64x8x128.size a := by
  intro a; fin_cases a <;> simp <;> omega
/-- Cell `k` of the semaphore array. -/
theorem cellInb {k : ℕ} (h : k < 64) : ∀ a, (![k] : Fin 1 → ℕ) a + S1.size a ≤ S64.size a := by
  intro a; fin_cases a; simp; omega
/-- Rows 16 onwards of plane `k` of the result. -/
theorem planeInb {k : ℕ} (h : k < 64) : ∀ a, (![k, 16, 0] : Fin 3 → ℕ) a + S1x8176x128.size a ≤ S64x8192x128.size a := by
  intro a; fin_cases a <;> simp <;> omega
/-- They are whole 32-bit words. -/
theorem planeWords {k : ℕ} (h : k < 64) :
    (Rect.unit (s := S64x8192x128) ![k, 16, 0] S1x8176x128.size (planeInb h)).WholeWords (EltTy.packing .f16) :=
  .inl (Affine.packed_dvd (by decide) ⟨8, rfl⟩ ⟨4088, rfl⟩)

section Body

variable (arg0 arg1 : Memref sig .tc .vmem S32x128 .i32) (arg2 : Memref sig .tc .hbm S64x8192x128 .f16) (harg2 : arg2.IsWhole)
  (arg3 : Memref sig .tc .vmem S64x8x128 .i32) (harg3 : arg3.IsWhole) (arg4 : Memref sig .tc .vmem S4088x128 .i32) (harg4 : arg4.IsWhole)
  (arg5 : DmaSems sig S64) (arg6 : DmaSems sig S_)

/-- Cell `k` of the semaphore array. -/
abbrev cellAt (k : ℕ) (h : k < 64) : DmaSem sig :=
  ((arg5.slice (Rect.unit (s := S64) ![k] S1.size (cellInb h))).squeeze S_ squeezes_S1_S_).sem
/-- Rows 16 onwards of plane `k` of the result, as a matrix. -/
abbrev planeAt (k : ℕ) (h : k < 64) : Memref sig .tc .hbm S8176x128 .f16 :=
  (arg2.slice (Rect.unit (s := S64x8192x128) ![k, 16, 0] S1x8176x128.size (planeInb h)) (fun _ => rfl)).squeeze S8176x128 squeezes_S1x8176x128_S8176x128
/-- Rows 0 to 15 of every plane of the result. -/
abbrev headAt : Memref sig .tc .hbm S64x16x128 .f16 :=
  arg2.slice (Rect.unit (s := S64x8192x128) ![0, 0, 0] S64x16x128.size inb_S64x8192x128_S64x16x128_0_0_0) (fun _ => rfl)

/-- Row `k` of a token array stored to row 0 of plane `p` of the slab. -/
def copyRow (src : Memref sig .tc .vmem S32x128 .i32) (k : ℕ) (hk : k < 32) (p : ℕ) (hp : p < 64) : Prog (TpuEff nD τ sig (Elt F) Λ₀ .tc) PUnit := do
  let v : Vec F S1x128 .i32 ← Prog.lift (.load src (Rect.unit (s := S32x128) ![k, 0] S1x128.size (rowInb hk)).toLoadRect (View.loadsAt_vmem h_S1x128))
  let _ : Vec F S1x1x128 .i32 ← Prog.lift (.load arg3 (Rect.unit (s := S64x8x128) ![p, 0, 0] S1x1x128.size (slabInb hp)).toLoadRect (View.loadsAt_vmem h_S1x1x128))
  Prog.lift (.store arg3 (Rect.unit (s := S64x8x128) ![p, 0, 0] S1x1x128.size (slabInb hp)) (k0_pay3 v) Finset.univ (View.stores_vmem_bits_univ h_S1x1x128 rfl) (.inl rfl))

/-- Row `k` of both token arrays stored. -/
def copyRows (k : ℕ) (hk : k < 32) : Prog (TpuEff nD τ sig (Elt F) Λ₀ .tc) PUnit := do
  copyRow arg3 arg0 k hk k (Nat.lt_trans hk (by decide))
  copyRow arg3 arg1 k hk (32 + k) (Nat.add_lt_add_left hk 32)

/-- The transfer of the zero scratch into plane `k`, started. -/
def startPlane (k : ℕ) (h : k < 64) : Prog (TpuEff nD τ sig (Elt F) Λ₀ .tc) PUnit :=
  Prog.lift (.enqueueDmaAs arg4 (.here (planeAt arg2 k h)) (.bitcast bitcasts_S4088x128_w32_S8176x128_w16) (.dma (cellAt arg5 k h)) harg4.wordExact ((harg2.wordExact_slice rfl _ (planeWords h)).reshape _ _) ⟨Or.inl rfl, trivial⟩)

/-- The wait for it. -/
def waitPlane (k : ℕ) (h : k < 64) : Prog (TpuEff nD τ sig (Elt F) Λ₀ .tc) PUnit :=
  Prog.lift (.waitDma2 (cellAt arg5 k h) arg4 (planeAt arg2 k h) harg4.wordExact ((harg2.wordExact_slice rfl _ (planeWords h)).reshape _ _))

/-- Both scratches filled with zero words. -/
def clear : Prog (TpuEff nD τ sig (Elt F) Λ₀ .tc) PUnit := do
  let _ : Vec F S64x8x128 .i32 ← Prog.lift (.load arg3 (Rect.unit (s := S64x8x128) ![0, 0, 0] S64x8x128.size inb_S64x8x128_S64x8x128_0_0_0).toLoadRect (View.loadsAt_vmem h_S64x8x128))
  Prog.lift (.store arg3 (Rect.unit (s := S64x8x128) ![0, 0, 0] S64x8x128.size inb_S64x8x128_S64x8x128_0_0_0) k0_pay1 Finset.univ (View.stores_vmem_bits_univ h_S64x8x128 rfl) (.inl rfl))
  let _ : Vec F S4088x128 .i32 ← Prog.lift (.load arg4 (Rect.unit (s := S4088x128) ![0, 0] S4088x128.size inb_S4088x128_S4088x128_0_0).toLoadRect (View.loadsAt_vmem h_S4088x128))
  Prog.lift (.store arg4 (Rect.unit (s := S4088x128) ![0, 0] S4088x128.size inb_S4088x128_S4088x128_0_0) k0_pay2 Finset.univ (View.stores_vmem_bits_univ h_S4088x128 rfl) (.inl rfl))

/-- The transfer of the slab into the first 16 rows of every plane, started. -/
def startHead : Prog (TpuEff nD τ sig (Elt F) Λ₀ .tc) PUnit :=
  Prog.lift (.enqueueDmaAs arg3 (.here (headAt arg2)) (.bitcast bitcasts_S64x8x128_w32_S64x16x128_w16) (.dma arg6.sem) harg3.wordExact (harg2.wordExact_slice rfl _ wordsf16_S64x8192x128_S64x16x128_0_0_0) ⟨Or.inl rfl, trivial⟩)

/-- The wait for it. -/
def waitHead : Prog (TpuEff nD τ sig (Elt F) Λ₀ .tc) PUnit :=
  Prog.lift (.waitDma2 arg6.sem arg3 (headAt arg2) harg3.wordExact (harg2.wordExact_slice rfl _ wordsf16_S64x8192x128_S64x16x128_0_0_0))

/-- The body as loops: the scratches cleared, the token rows copied, every transfer started, every transfer waited for. -/
def fillLoop : Prog (TpuEff nD τ sig (Elt F) Λ₀ .tc) PUnit := do
  clear arg3 arg4
  upto 32 (copyRows arg0 arg1 arg3)
  startHead arg2 harg2 arg3 harg3 arg6
  upto 64 (startPlane arg2 harg2 arg4 harg4 arg5)
  waitHead arg2 harg2 arg3 harg3 arg6
  upto 64 (waitPlane arg2 harg2 arg4 harg4 arg5)

/-- The printed body is the loops, unrolled. -/
theorem fill_eq (harg0 : arg0.IsWhole) (harg1 : arg1.IsWhole) :
    cc0__fill_body (F := F) arg0 harg0 arg1 harg1 arg2 harg2 arg3 harg3 arg4 harg4 arg5 arg6
      = fillLoop arg0 arg1 arg2 harg2 arg3 harg3 arg4 harg4 arg5 arg6 := by
  chain_rfl

end Body

end Cert.Kernel.Hand

end
-- ==== Proof.Rules.lean ====
/-
  Hand-written, untrusted. Two rules for the loops of `Loop.lean`, by induction on the iterations left: `wp_iter` for an invariant
  indexed by the iteration, `wp_each` for a resource per iteration, each turned into another by its own iteration.
-/
module

public import proofs.«01_k».proof.Proof.Loop
public import Idealize.ShloMosaic.Lib.Pipeline.Frame
public import Idealize.ShloMosaic.Lib.Tactic
public import Idealize.ShloMosaic.Lib.Transfers

@[expose] public section

set_option Elab.async false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The weakest precondition of a program on core `c`, at the kernel's own definitions. -/
abbrev wpc (c : Dev nD) {α : Type} (p : Prog (TpuEff nD τ sig (Elt F) Λ₀ .tc) α) (K : α → sProp 𝕄) : sProp 𝕄 :=
  wp frame (wpE (defs₀ (F := F)) Variants.none c none) Set.univ p K

/-- From `I k` iteration `k` reaches `I (k + 1)`; so the last `j` iterations go from `I (n - j)` to `I n`. -/
theorem wp_iter (c : Dev nD) {n : ℕ} {f : (k : ℕ) → k < n → Prog (TpuEff nD τ sig (Elt F) Λ₀ .tc) PUnit} (I : ℕ → sProp 𝕄)
    (hstep : ∀ k h (K : PUnit → sProp 𝕄), iprop(I k ∗ (I (k + 1) -∗ K ⟨⟩)) ⊢ wpc c (f k h) K) :
    ∀ (j : ℕ) (h : j ≤ n) (K : PUnit → sProp 𝕄), iprop(I (n - j) ∗ (I n -∗ K ⟨⟩)) ⊢ wpc c (lastly n f j h) K
  | 0, _, K => by
    rw [Nat.sub_zero]
    iintro ⟨H, Hk⟩
    iapply (le_wp_ret frame (wpE (defs₀ (F := F)) Variants.none c none) Set.univ PUnit.unit K)
    iapply Hk; iexact H
  | j + 1, h, K => by
    refine .trans ?_ (Entails.of_eq (wp_bind frame (wpE (defs₀ (F := F)) Variants.none c none) Set.univ _ _ K).symm)
    refine .trans ?_ (hstep (n - (j + 1)) _ _)
    rw [show n - (j + 1) + 1 = n - j by omega]
    iintro ⟨H, Hk⟩
    isplitl [H]; · iexact H
    iintro H
    iapply (wp_iter c I hstep j (Nat.le_of_succ_le h) K)
    isplitl [H] <;> iassumption

/-- Iteration `k` turns `A k` into `B k`, keeping `I`; so the last `j` iterations turn every `A` from `n - j` on into its `B`. -/
theorem wp_each_from (c : Dev nD) {n : ℕ} {f : (k : ℕ) → k < n → Prog (TpuEff nD τ sig (Elt F) Λ₀ .tc) PUnit} (A B : Fin n → sProp 𝕄) (I : sProp 𝕄)
    (hstep : ∀ k h (K : PUnit → sProp 𝕄), iprop(A ⟨k, h⟩ ∗ I ∗ (iprop(B ⟨k, h⟩ ∗ I) -∗ K ⟨⟩)) ⊢ wpc c (f k h) K) :
    ∀ (j : ℕ) (h : j ≤ n) (K : PUnit → sProp 𝕄),
      iprop(bigSep (Finset.univ.filter fun i : Fin n => n - j ≤ i.val) A ∗ I
          ∗ (iprop(bigSep (Finset.univ.filter fun i : Fin n => n - j ≤ i.val) B ∗ I) -∗ K ⟨⟩)) ⊢ wpc c (lastly n f j h) K
  | 0, _, K => by
    rw [show (Finset.univ.filter fun i : Fin n => n - 0 ≤ i.val) = ∅ from
      Finset.filter_eq_empty_iff.mpr fun i _ => by have := i.isLt; omega, bigSep_empty, bigSep_empty]
    iintro ⟨He, H, Hk⟩
    iapply (le_wp_ret frame (wpE (defs₀ (F := F)) Variants.none c none) Set.univ PUnit.unit K)
    iapply Hk
    isplitl [He] <;> iassumption
  | j + 1, h, K => by
    refine .trans ?_ (Entails.of_eq (wp_bind frame (wpE (defs₀ (F := F)) Variants.none c none) Set.univ _ _ K).symm)
    have hlt : n - (j + 1) < n := by omega
    have hmem : (⟨n - (j + 1), hlt⟩ : Fin n) ∉ Finset.univ.filter fun i : Fin n => n - j ≤ i.val := by
      simp only [Finset.mem_filter, Finset.mem_univ, true_and]; omega
    have hins : (Finset.univ.filter fun i : Fin n => n - (j + 1) ≤ i.val)
        = insert (⟨n - (j + 1), hlt⟩ : Fin n) (Finset.univ.filter fun i : Fin n => n - j ≤ i.val) := by
      ext i; simp only [Finset.mem_filter, Finset.mem_univ, true_and, Finset.mem_insert, Fin.ext_iff]; omega
    rw [hins, bigSep_insert hmem, bigSep_insert hmem]
    refine .trans ?_ (hstep (n - (j + 1)) hlt _)
    refine (show iprop(iprop(A ⟨n - (j + 1), hlt⟩ ∗ bigSep (Finset.univ.filter fun i : Fin n => n - j ≤ i.val) A) ∗ I
      ∗ (iprop(iprop(B ⟨n - (j + 1), hlt⟩ ∗ bigSep (Finset.univ.filter fun i : Fin n => n - j ≤ i.val) B) ∗ I) -∗ K ⟨⟩)) ⊢ _ from ?_)
    iintro ⟨⟨HA, HAs⟩, HI, Hk⟩
    isplitl [HA]; · iexact HA
    isplitl [HI]; · iexact HI
    iintro ⟨HB, HI⟩
    iapply (wp_each_from c A B I hstep j (Nat.le_of_succ_le h) K)
    isplitl [HAs]; · iexact HAs
    isplitl [HI]; · iexact HI
    iintro ⟨HBs, HI⟩
    iapply Hk
    isplitl [HB HBs]
    · isplitl [HB] <;> iassumption
    iexact HI

/-- A loop over all `n` indices turns every `A` into its `B`. -/
theorem wp_each (c : Dev nD) {n : ℕ} {f : (k : ℕ) → k < n → Prog (TpuEff nD τ sig (Elt F) Λ₀ .tc) PUnit} (A B : Fin n → sProp 𝕄) (I : sProp 𝕄)
    (hstep : ∀ k h (K : PUnit → sProp 𝕄), iprop(A ⟨k, h⟩ ∗ I ∗ (iprop(B ⟨k, h⟩ ∗ I) -∗ K ⟨⟩)) ⊢ wpc c (f k h) K) (K : PUnit → sProp 𝕄) :
    iprop(bigSep Finset.univ A ∗ I ∗ (iprop(bigSep Finset.univ B ∗ I) -∗ K ⟨⟩)) ⊢ wpc c (upto n f) K := by
  have h := wp_each_from c A B I hstep n (Nat.le_refl n) K
  rwa [show (Finset.univ.filter fun i : Fin n => n - n ≤ i.val) = Finset.univ from
    Finset.filter_true_of_mem fun i _ => by omega] at h

/-- A loop over all `n` indices goes from `I 0` to `I n`. -/
theorem wp_upto (c : Dev nD) {n : ℕ} {f : (k : ℕ) → k < n → Prog (TpuEff nD τ sig (Elt F) Λ₀ .tc) PUnit} (I : ℕ → sProp 𝕄)
    (hstep : ∀ k h (K : PUnit → sProp 𝕄), iprop(I k ∗ (I (k + 1) -∗ K ⟨⟩)) ⊢ wpc c (f k h) K) (K : PUnit → sProp 𝕄) :
    iprop(I 0 ∗ (I n -∗ K ⟨⟩)) ⊢ wpc c (upto n f) K := by
  have h := wp_iter c I hstep n (Nat.le_refl n) K
  rwa [Nat.sub_self] at h

end Cert.Kernel.Hand

end
-- ==== Proof.Rows.lean ====
/-
  Hand-written, untrusted. The body's first part: both scratches cleared, then the 64 token rows copied, row 0 of one plane of
  the slab scratch each. `slab` names the slab's contents after any set of planes has been filled; `wp_rows` is the whole part.
-/
module

public import proofs.«01_k».proof.Proof.Rules
public import Idealize.ShloMosaic.Lib.Writes
public import Idealize.ShloMosaic.Lib.ValueLayout
public import Idealize.ShloMosaic.Lib.Pointwise.Reshape

@[expose] public section

set_option Elab.async false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The slab scratch, the zero scratch and the result, whole. -/
abbrev slabM : Memref sig .tc .vmem S64x8x128 .i32 := Memref.whole cc0_scratch0
abbrev zeroM : Memref sig .tc .vmem S4088x128 .i32 := Memref.whole cc0_scratch1
abbrev outM : Memref sig .tc .hbm S64x8192x128 .f16 := Memref.whole main_v6

/-! ## The slab's contents -/

/-- The token word of plane `p` at lane `l`: the first 32 planes are the key tokens', the others the value tokens'. -/
def tok (d0 d1 : S32x128.Idx → BitVec 32) (p : ℕ) (l : Fin 128) : BitVec 32 :=
  (if p < 32 then d0 else d1) (ix2 ⟨p % 32, Nat.mod_lt _ (by decide)⟩ l)

/-- The slab after the planes `D` have been filled: a token word in row 0 of each, zero words elsewhere. -/
def slab (d0 d1 : S32x128.Idx → BitVec 32) (D : Finset ℕ) : S64x8x128.Idx → BitVec 32 :=
  fun i => if (i 1).val = 0 ∧ (i 0).val ∈ D then tok d0 d1 (i 0).val (i 2) else 0#32

/-- The planes filled by the first `k` iterations. -/
def filled (k : ℕ) : Finset ℕ := (Finset.range 64).filter fun p => p % 32 < k

theorem filled_zero : filled 0 = ∅ := by ext p; simp [filled]
theorem filled_succ {k : ℕ} (hk : k < 32) : insert (32 + k) (insert k (filled k)) = filled (k + 1) := by
  ext p; simp only [filled, Finset.mem_insert, Finset.mem_filter, Finset.mem_range]; omega

/-- The zero scratch's contents: every word zero. -/
def zeros : S4088x128.Idx → BitVec 32 := fun _ => 0#32

/-- The slab's contents are `g` where the whole slab, read place by place, gives `g`. -/
theorem slab_ext (f : S64x8x128.Idx → BitVec 32) (g : S64x8x128.Idx → BitVec 32)
    (h : ∀ i : S64x8x128.Idx, slabM.view.read (Elt F) f i = g i) : f = g := funext h

/-- The same of the zero scratch. -/
theorem zero_ext (f : S4088x128.Idx → BitVec 32) (g : S4088x128.Idx → BitVec 32)
    (h : ∀ i : S4088x128.Idx, zeroM.view.read (Elt F) f i = g i) : f = g := funext h

/-- A row stored to row 0 of plane `p` fills that plane. -/
theorem slab_store (d0 d1 : S32x128.Idx → BitVec 32) (D : Finset ℕ) {p : ℕ} (hp : p < 64) (w : Vec F S1x128 .i32)
    (hw : ∀ l, w (ix2 0 l) = tok d0 d1 p l) :
    slabM.view.writes (Elt F) (slab d0 d1 D) [⟨Rect.unit (s := S64x8x128) ![p, 0, 0] S1x1x128.size (slabInb hp), k0_pay3 w⟩]
      = slab d0 d1 (insert p D) := by
  refine slab_ext (F := F) _ _ fun i => ?_
  by_cases h : (i 1).val = 0 ∧ (i 0).val = p
  · refine (View.read_writes_cons_hit_of_coords (Val := Elt F) slabM.view (slab d0 d1 D) (Rect.unit (s := S64x8x128) ![p, 0, 0] S1x1x128.size (slabInb hp))
      (k0_pay3 w) [] (ix3 (0 : Fin 1) (0 : Fin 1) (i 2 : Fin 128)) i (by
        intro a; fin_cases a
        · show (i 0).val = p + 1 * 0; omega
        · show (i 1).val = 0 + 1 * 0; omega
        · show (i 2).val = 0 + 1 * (i 2).val; omega)).trans ?_
    unfold k0_pay3
    rw [shapeCast_id]
    refine (ValueIdx.shapeCast_ab_1ab_apply (a := 1) (b := 128) w _ 0 0 (i 2)).trans ((hw (i 2)).trans ?_)
    rw [slab, if_pos ⟨h.1, by rw [h.2]; exact Finset.mem_insert_self _ _⟩, h.2]
  · have hmiss : slabM.view.read (Elt F) (slabM.view.writes (Elt F) (slab d0 d1 D)
        [⟨Rect.unit (s := S64x8x128) ![p, 0, 0] S1x1x128.size (slabInb hp), k0_pay3 w⟩]) i = slab d0 d1 D i := by
      by_cases h1 : (i 1).val = 0
      · exact View.read_writes_cons_miss_of_axis (Val := Elt F) slabM.view (slab d0 d1 D) _ [] i 0 p 1 rfl rfl rfl (by
          rcases Nat.lt_or_ge (i 0).val p with hlt | hge
          · exact Or.inl hlt
          · exact Or.inr (Nat.lt_of_le_of_ne hge fun e => h ⟨h1, e.symm⟩))
      · exact View.read_writes_cons_miss_of_axis (Val := Elt F) slabM.view (slab d0 d1 D) _ [] i 1 0 1 rfl rfl rfl
          (Or.inr (by rw [Nat.zero_add]; exact Nat.pos_of_ne_zero h1))
    refine Eq.trans hmiss ?_
    show slab d0 d1 D i = slab d0 d1 (insert p D) i
    unfold slab
    refine if_congr ⟨fun hi => ⟨hi.1, Finset.mem_insert_of_mem hi.2⟩, fun hi => ⟨hi.1, ?_⟩⟩ rfl rfl
    exact (Finset.mem_insert.mp hi.2).resolve_left fun e => h ⟨hi.1, e⟩

/-- The slab cleared is the slab with no plane filled. -/
theorem slab_clear (d0 d1 : S32x128.Idx → BitVec 32) (f : S64x8x128.Idx → BitVec 32) :
    slabM.view.writes (Elt F) f [⟨Rect.unit (s := S64x8x128) ![0, 0, 0] S64x8x128.size inb_S64x8x128_S64x8x128_0_0_0, k0_pay1⟩] = slab d0 d1 ∅ := by
  refine slab_ext (F := F) _ _ fun i => ?_
  refine (View.read_writes_cons_hit_of_coords (Val := Elt F) slabM.view f
    (Rect.unit (s := S64x8x128) ![0, 0, 0] S64x8x128.size inb_S64x8x128_S64x8x128_0_0_0) k0_pay1 [] i i (by
    intro a; fin_cases a
    · show (i 0).val = 0 + 1 * (i 0).val; omega
    · show (i 1).val = 0 + 1 * (i 1).val; omega
    · show (i 2).val = 0 + 1 * (i 2).val; omega)).trans ?_
  rw [slab, if_neg (fun h => Finset.notMem_empty _ h.2)]
  rfl

/-- The zero scratch cleared holds zero words. -/
theorem zero_clear (f : S4088x128.Idx → BitVec 32) :
    zeroM.view.writes (Elt F) f [⟨Rect.unit (s := S4088x128) ![0, 0] S4088x128.size inb_S4088x128_S4088x128_0_0, k0_pay2⟩] = zeros := by
  refine zero_ext (F := F) _ _ fun i => ?_
  refine (View.read_writes_cons_hit_of_coords (Val := Elt F) zeroM.view f
    (Rect.unit (s := S4088x128) ![0, 0] S4088x128.size inb_S4088x128_S4088x128_0_0) k0_pay2 [] i i (by
    intro a; fin_cases a
    · show (i 0).val = 0 + 1 * (i 0).val; omega
    · show (i 1).val = 0 + 1 * (i 1).val; omega)).trans ?_
  rfl

/-! ## The copy of one row -/

/-- One row read from a token array and stored to plane `p`: the slab gains plane `p`. -/
theorem wp_copyRow (c : Dev nD) (src : Memref sig .tc .vmem S32x128 .i32) (fs : Buf (Elt F) (src.view.loc (c : Thread nD τ)))
    (d0 d1 : S32x128.Idx → BitVec 32) (D : Finset ℕ) {k : ℕ} (hk : k < 32) {p : ℕ} (hp : p < 64)
    (hw : ∀ l, src.view.read (Elt F) fs (ix2 ⟨k, hk⟩ l) = tok d0 d1 p l) (K : PUnit → sProp 𝕄) :
    iprop((src.view.loc (c : Thread nD τ) ↦[src.view.set]{fullShare} fs) ∗ (slabM.view.loc (c : Thread nD τ) ↦{fullShare} slab d0 d1 D)
        ∗ (iprop((src.view.loc (c : Thread nD τ) ↦[src.view.set]{fullShare} fs)
            ∗ (slabM.view.loc (c : Thread nD τ) ↦{fullShare} slab d0 d1 (insert p D))) -∗ K ⟨⟩))
      ⊢ wpc c (copyRow slabM src k hk p hp) K := by
  unfold copyRow
  simp only [Prog.bind_lift]
  simp only [Prog.lift]
  iintro ⟨Hs, Hd, Hk⟩
  iapply (wp_load Variants.none (c : Thread nD τ) none Set.univ (m := src) (r := (Rect.unit (s := S32x128) ![k, 0] S1x128.size (rowInb hk)).toLoadRect)
    (S := src.view.set) (q := fullShare) (f := fs) (View.setOn_subset_set _ _)) $$ Hs
  iintro Hs
  iapply (wp_load Variants.none (c : Thread nD τ) none Set.univ (m := slabM) (S := Finset.univ) (q := fullShare) (f := slab d0 d1 D) (Finset.subset_univ _)) $$ Hd
  iintro Hd
  generalize hv : src.view.readAt (Elt F) (Rect.unit (s := S32x128) ![k, 0] S1x128.size (rowInb hk)).toLoadRect fs = v
  have hwv : ∀ l, v (ix2 0 l) = tok d0 d1 p l := by
    intro l
    rw [← hv, ← hw l, View.readAt_apply]
    congr 1
    funext a; apply Fin.ext; fin_cases a
    · show k + 1 * 0 = k; omega
    · show 0 + 1 * l.val = l.val; omega
  iapply (wp_store_writes₀ Variants.none (c : Thread nD τ) none Set.univ (m := slabM) (r := Rect.unit (s := S64x8x128) ![p, 0, 0] S1x1x128.size (slabInb hp))
    (w := k0_pay3 v) (S := Finset.univ) (f := slab d0 d1 D) (Finset.subset_univ _)) $$ Hd
  iintro Hd
  rw [slab_store d0 d1 D hp v hwv]
  iapply (le_wp_ret frame (wpE (defs₀ (F := F)) Variants.none c none) Set.univ PUnit.unit K)
  iapply Hk
  isplitl [Hs] <;> iassumption

/-! ## The whole part -/

/-- Both scratches cleared. -/
theorem wp_clear (c : Dev nD) (d0 d1 : S32x128.Idx → BitVec 32) (f3 : S64x8x128.Idx → BitVec 32) (f4 : S4088x128.Idx → BitVec 32) (K : PUnit → sProp 𝕄) :
    iprop((slabM.view.loc (c : Thread nD τ) ↦{fullShare} f3) ∗ (zeroM.view.loc (c : Thread nD τ) ↦{fullShare} f4)
        ∗ (iprop((slabM.view.loc (c : Thread nD τ) ↦{fullShare} slab d0 d1 ∅)
            ∗ (zeroM.view.loc (c : Thread nD τ) ↦{fullShare} zeros)) -∗ K ⟨⟩))
      ⊢ wpc c (clear slabM zeroM) K := by
  unfold clear
  simp only [Prog.bind_lift]
  simp only [Prog.lift]
  iintro ⟨H3, H4, Hk⟩
  iapply (wp_load Variants.none (c : Thread nD τ) none Set.univ (m := slabM) (S := Finset.univ) (q := fullShare) (f := f3) (Finset.subset_univ _)) $$ H3
  iintro H3
  iapply (wp_store_writes₀ Variants.none (c : Thread nD τ) none Set.univ (m := slabM)
    (r := Rect.unit (s := S64x8x128) ![0, 0, 0] S64x8x128.size inb_S64x8x128_S64x8x128_0_0_0)
    (w := k0_pay1) (S := Finset.univ) (f := f3) (Finset.subset_univ _)) $$ H3
  iintro H3
  iapply (wp_load Variants.none (c : Thread nD τ) none Set.univ (m := zeroM) (S := Finset.univ) (q := fullShare) (f := f4) (Finset.subset_univ _)) $$ H4
  iintro H4
  iapply (wp_store_writes₀ Variants.none (c : Thread nD τ) none Set.univ (m := zeroM)
    (r := Rect.unit (s := S4088x128) ![0, 0] S4088x128.size inb_S4088x128_S4088x128_0_0)
    (w := k0_pay2) (S := Finset.univ) (f := f4) (Finset.subset_univ _)) $$ H4
  iintro H4
  rw [slab_clear d0 d1 f3, zero_clear f4]
  iapply (le_wp_ret frame (wpE (defs₀ (F := F)) Variants.none c none) Set.univ PUnit.unit K)
  iapply Hk
  isplitl [H3] <;> iassumption

/-- The 64 rows copied: every plane of the slab is filled, the token arrays unchanged. -/
theorem wp_rows (c : Dev nD) (a0 a1 : Memref sig .tc .vmem S32x128 .i32) (f0 : Buf (Elt F) (a0.view.loc (c : Thread nD τ)))
    (f1 : Buf (Elt F) (a1.view.loc (c : Thread nD τ))) (d0 d1 : S32x128.Idx → BitVec 32)
    (h0 : a0.view.read (Elt F) f0 = d0) (h1 : a1.view.read (Elt F) f1 = d1) (K : PUnit → sProp 𝕄) :
    iprop(iprop((a0.view.loc (c : Thread nD τ) ↦[a0.view.set]{fullShare} f0) ∗ (a1.view.loc (c : Thread nD τ) ↦[a1.view.set]{fullShare} f1)
          ∗ (slabM.view.loc (c : Thread nD τ) ↦{fullShare} slab d0 d1 (filled 0)))
        ∗ (iprop((a0.view.loc (c : Thread nD τ) ↦[a0.view.set]{fullShare} f0) ∗ (a1.view.loc (c : Thread nD τ) ↦[a1.view.set]{fullShare} f1)
          ∗ (slabM.view.loc (c : Thread nD τ) ↦{fullShare} slab d0 d1 (filled 32))) -∗ K ⟨⟩))
      ⊢ wpc c (upto 32 (copyRows a0 a1 slabM)) K := by
  refine wp_upto c (fun k => iprop((a0.view.loc (c : Thread nD τ) ↦[a0.view.set]{fullShare} f0) ∗ (a1.view.loc (c : Thread nD τ) ↦[a1.view.set]{fullShare} f1)
          ∗ (slabM.view.loc (c : Thread nD τ) ↦{fullShare} slab d0 d1 (filled k)))) ?_ K
  intro k hk K
  unfold copyRows
  rw [wpc, wp_bind, ← filled_succ hk]
  iintro ⟨⟨H0, H1, Hd⟩, Hk⟩
  iapply (wp_copyRow c a0 f0 d0 d1 (filled k) hk (Nat.lt_trans hk (by decide)) (by
    intro l; rw [h0, tok, if_pos hk]; congr 2; exact Fin.ext (Nat.mod_eq_of_lt hk).symm) _)
  isplitl [H0]; · iexact H0
  isplitl [Hd]; · iexact Hd
  iintro ⟨H0, Hd⟩
  iapply (wp_copyRow c a1 f1 d0 d1 (insert k (filled k)) hk (Nat.add_lt_add_left hk 32) (by
    intro l; rw [h1, tok, if_neg (by omega)]; congr 2; exact Fin.ext (by show k = (32 + k) % 32; omega)) _)
  isplitl [H1]; · iexact H1
  isplitl [Hd]; · iexact Hd
  iintro ⟨H1, Hd⟩
  iapply Hk
  isplitl [H0]; · iexact H0
  isplitl [H1] <;> iassumption

end Cert.Kernel.Hand

end
-- ==== Proof.Words.lean ====
/-
  Hand-written, untrusted. What the transfers leave in the result: `filledOut`, a function of the token words alone, and the two
  facts that the transfer of a plane and the transfer of the head write it on the elements they reach.
-/
module

public import proofs.«01_k».proof.Proof.Rows
public import Idealize.ShloMosaic.Lib.BitcastPair

@[expose] public section

set_option Elab.async false

noncomputable section

namespace Cert.Kernel.Hand

open Cert.Kernel Cert.Kernel.Gen
open Idealize.ShloMosaic

variable {F : FTy → Type} [BitOps F]

/-- The half of the word `w` that lands in row `r`: the low half in an even row, the high half in an odd one, read at f16. -/
def half (w : BitVec 32) (r : ℕ) : Elt F .f16 := HasBits.ofBits (Val := Elt F) (e := .f16) (w.extractLsb' (16 * (r % 2)) 16)

/-- Either half of the zero word is the zero pattern. -/
theorem half_zero (r : ℕ) : half (F := F) 0#32 r = HasBits.ofBits (Val := Elt F) (e := .f16) 0#16 := by
  unfold half; rw [BitVec.extractLsb'_zero]

/-- The result: in rows 0 and 1 of each plane the two halves of its token words, zero patterns elsewhere. -/
def filledOut (d0 d1 : S32x128.Idx → BitVec 32) : S64x8192x128.Idx → Elt F .f16 :=
  fun i => half (if (i 1).val < 2 then tok d0 d1 (i 0).val (i 2) else 0#32) (i 1).val

/-- Below row 1 the result is zero patterns. -/
theorem filledOut_zero (d0 d1 : S32x128.Idx → BitVec 32) (i : S64x8192x128.Idx) (h : 2 ≤ (i 1).val) :
    filledOut (F := F) d0 d1 i = HasBits.ofBits (Val := Elt F) (e := .f16) 0#16 := by
  unfold filledOut; rw [if_neg (by omega), half_zero]

/-- A view written, on all its elements, with what it reads of `G` holds `G` there. -/
theorem write_eq_on {κ : Kind} {sp : Space} {s : Shape} {e : EltTy} (v : View sig κ sp s e) (f G : v.ty.Contents (Elt F)) (w : s.Idx → Elt F e)
    (h : ∀ j, w j = v.read (Elt F) G j) : ∀ i ∈ v.set, v.write (Elt F) f w Finset.univ i = G i := by
  intro i hi
  obtain ⟨j, -, rfl⟩ := Finset.mem_map.mp hi
  rw [View.write_emb_of_mem f w (Finset.mem_univ j), h j, View.read_apply]
  simp

/-! ## The elements each transfer reaches -/

/-- The plane transfer `k` reaches rows 16 onwards of plane `k`, -/
theorem mem_plane {k : ℕ} (h : k < 64) (i : S64x8192x128.Idx) :
    i ∈ (planeAt outM k h).view.set ↔ (i 0).val = k ∧ 16 ≤ (i 1).val := by
  have e : (planeAt outM k h).view.set = (Rect.unit (s := S64x8192x128) ![k, 16, 0] S1x8176x128.size (planeInb h)).set :=
    (View.set_reshape _ _).trans (View.set_slice_whole main_v6 _)
  rw [e, Rect.mem_set_unit]
  constructor
  · intro hi
    have h0 := hi 0
    have h1 := hi 1
    change k ≤ (i 0).val ∧ (i 0).val < k + 1 at h0
    change 16 ≤ (i 1).val ∧ (i 1).val < 16 + 8176 at h1
    exact ⟨by omega, h1.1⟩
  · rintro ⟨h0, h1⟩ a
    have b1 : (i 1).val < 8192 := (i 1).isLt
    have b2 : (i 2).val < 128 := (i 2).isLt
    fin_cases a
    · show k ≤ (i 0).val ∧ (i 0).val < k + 1
      omega
    · show 16 ≤ (i 1).val ∧ (i 1).val < 16 + 8176
      omega
    · show 0 ≤ (i 2).val ∧ (i 2).val < 0 + 128
      omega

/-- and the head transfer the first 16 rows of every plane. -/
theorem mem_head (i : S64x8192x128.Idx) : i ∈ (headAt outM).view.set ↔ (i 1).val < 16 := by
  have e : (headAt outM).view.set = (Rect.unit (s := S64x8192x128) ![0, 0, 0] S64x16x128.size inb_S64x8192x128_S64x16x128_0_0_0).set :=
    View.set_slice_whole main_v6 _
  rw [e, Rect.mem_set_unit]
  constructor
  · intro hi
    have h1 := hi 1
    change 0 ≤ (i 1).val ∧ (i 1).val < 0 + 16 at h1
    omega
  · intro h1 a
    have b0 : (i 0).val < 64 := (i 0).isLt
    have b2 : (i 2).val < 128 := (i 2).isLt
    fin_cases a
    · show 0 ≤ (i 0).val ∧ (i 0).val < 0 + 64
      omega
    · show 0 ≤ (i 1).val ∧ (i 1).val < 0 + 16
      omega
    · show 0 ≤ (i 2).val ∧ (i 2).val < 0 + 128
      omega

/-! ## What each transfer leaves there -/

/-- The zero scratch's words, read at f16, are zero patterns. -/
theorem zeros_words (j : S8176x128.Idx) :
    (ReadAs.bitcast (Val := Elt F) (e₀ := .i32) (e := .f16) bitcasts_S4088x128_w32_S8176x128_w16).apply zeros j
      = HasBits.ofBits (Val := Elt F) (e := .f16) 0#16 := by
  refine congrArg (fun b : BitVec 16 => HasBits.ofBits (Val := Elt F) (e := .f16) b) ?_
  refine (bitcast_32_16 _ bitcasts_S4088x128_w32_S8176x128_w16 j).trans ?_
  show (0#32).extractLsb' _ 16 = 0#16
  rw [BitVec.extractLsb'_zero]

/-- The slab's words, read at f16: row `2r` of a plane is the low halves of its row `r` of words, row `2r + 1` the high halves. -/
theorem slab_words (d0 d1 : S32x128.Idx → BitVec 32) (j : S64x16x128.Idx) :
    (ReadAs.bitcast (Val := Elt F) (e₀ := .i32) (e := .f16) bitcasts_S64x8x128_w32_S64x16x128_w16).apply (slab d0 d1 (filled 32)) j
      = half (if (j 1).val < 2 then tok d0 d1 (j 0).val (j 2) else 0#32) (j 1).val := by
  refine congrArg (fun b : BitVec 16 => HasBits.ofBits (Val := Elt F) (e := .f16) b) ?_
  refine (bitcast_32_16 _ bitcasts_S64x8x128_w32_S64x16x128_w16 j).trans ?_
  have b0 : (j 0).val < 64 := (j 0).isLt
  have hm : (j 0).val ∈ filled 32 := by
    simp only [filled, Finset.mem_filter, Finset.mem_range]; omega
  show (if (j 1).val / 2 = 0 ∧ (j 0).val ∈ filled 32 then tok d0 d1 (j 0).val (j 2) else 0#32).extractLsb' (16 * ((j 1).val % 2)) 16 = _
  congr 1
  refine if_congr ⟨fun h => by omega, fun h => ⟨by omega, hm⟩⟩ rfl rfl

/-- Plane transfer `k` leaves the result's contents on its elements, -/
theorem plane_written (d0 d1 : S32x128.Idx → BitVec 32) {k : ℕ} (h : k < 64) (f : S64x8192x128.Idx → Elt F .f16) (i : S64x8192x128.Idx)
    (hi : i ∈ (planeAt outM k h).view.set) :
    (planeAt outM k h).view.write (Elt F) f ((ReadAs.bitcast (Val := Elt F) (e₀ := .i32) (e := .f16) bitcasts_S4088x128_w32_S8176x128_w16).apply
      (zeroM.view.read (Elt F) zeros)) Finset.univ i = filledOut d0 d1 i := by
  refine write_eq_on (planeAt outM k h).view f (filledOut d0 d1) _ (fun j => ?_) i hi
  refine (zeros_words j).trans ?_
  refine (filledOut_zero d0 d1 ((planeAt outM k h).view.emb j) ?_).symm
  have hj : (planeAt outM k h).view.emb j ∈ (planeAt outM k h).view.set := Finset.mem_map_of_mem _ (Finset.mem_univ j)
  exact Nat.le_trans (by decide) ((mem_plane h _).mp hj).2

/-- and so does the head transfer. -/
theorem head_written (d0 d1 : S32x128.Idx → BitVec 32) (f : S64x8192x128.Idx → Elt F .f16) (i : S64x8192x128.Idx)
    (hi : i ∈ (headAt outM).view.set) :
    (headAt outM).view.write (Elt F) f ((ReadAs.bitcast (Val := Elt F) (e₀ := .i32) (e := .f16) bitcasts_S64x8x128_w32_S64x16x128_w16).apply
      (slabM.view.read (Elt F) (slab d0 d1 (filled 32)))) Finset.univ i = filledOut d0 d1 i := by
  refine write_eq_on (headAt outM).view f (filledOut d0 d1) _ (fun j => ?_) i hi
  refine (slab_words d0 d1 j).trans ?_
  have e (a : Fin 3) : ((headAt outM).view.emb j a).val = (j a).val := by
    show (![0, 0, 0] : Fin 3 → ℕ) a + 1 * (j a).val = (j a).val
    fin_cases a
    · show 0 + 1 * (j 0).val = (j 0).val; omega
    · show 0 + 1 * (j 1).val = (j 1).val; omega
    · show 0 + 1 * (j 2).val = (j 2).val; omega
  show _ = filledOut d0 d1 ((headAt outM).view.emb j)
  unfold filledOut
  rw [e 0, e 1, show (headAt outM).view.emb j 2 = j 2 from Fin.ext (e 2)]

end Cert.Kernel.Hand

end
-- ==== Proof.Moves.lean ====
/-
  Hand-written, untrusted. The 65 transfers: one start and one wait for each of the two kinds, then the two loops over the 64
  planes. A started transfer holds its part of the result and its share of the source until its wait hands them back.
-/
module

public import proofs.«01_k».proof.Proof.Words
public import Idealize.ShloMosaic.Lib.Transfers

@[expose] public section

set_option Elab.async false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- Cell `k` of the kernel's semaphore array, and its one other cell. -/
abbrev planeCell (k : Fin 64) : SemLoc sig := .dma (cellAt cc0_scratch2 k.val k.isLt)
abbrev headCell : SemLoc sig := .dma cc0_scratch3.sem
/-- The credit of a plane's transfer, and of the head's. -/
abbrev planeCredit (k : Fin 64) : ℕ := (planeAt outM k.val k.isLt).view.dmaCredit
abbrev headCredit : ℕ := (headAt outM).view.dmaCredit

/-- The zero scratch's read share of transfer `k`. -/
abbrev zeroTok (c : Dev nD) (k : Fin 64) : sProp 𝕄 :=
  zeroM.view.loc (c : Thread nD τ) ↦[zeroM.view.set]{Transfers.shareTok fullShare 64 k} zeros
/-- The part of the result plane transfer `k` reaches, at contents `f`; and the head's. -/
abbrev planePt (c : Dev nD) (f : Buf (Elt F) ((c : Thread nD τ).loc main_v6)) (k : Fin 64) : sProp 𝕄 :=
  (planeAt outM k.val k.isLt).view.loc (c : Thread nD τ) ↦[(planeAt outM k.val k.isLt).view.set]{fullShare} f
abbrev headPt (c : Dev nD) (f : Buf (Elt F) ((c : Thread nD τ).loc main_v6)) : sProp 𝕄 :=
  (headAt outM).view.loc (c : Thread nD τ) ↦[(headAt outM).view.set]{fullShare} f
/-- The slab, filled. -/
abbrev slabPt (c : Dev nD) (d0 d1 : S32x128.Idx → BitVec 32) : sProp 𝕄 :=
  slabM.view.loc (c : Thread nD τ) ↦[slabM.view.set]{fullShare} slab d0 d1 (filled 32)

/-- What plane transfer `k` hands back at its wait; what the head's does. -/
abbrev planeDone (c : Dev nD) (d0 d1 : S32x128.Idx → BitVec 32) (k : Fin 64) : sProp 𝕄 :=
  iprop(planePt c (filledOut d0 d1) k ∗ zeroTok c k)
abbrev headDone (c : Dev nD) (d0 d1 : S32x128.Idx → BitVec 32) : sProp 𝕄 :=
  iprop(headPt c (filledOut d0 d1) ∗ slabPt c d0 d1)

/-- Plane transfer `k` in flight; the head's in flight. -/
abbrev planeFlight (c : Dev nD) (d0 d1 : S32x128.Idx → BitVec 32) (k : Fin 64) : sProp 𝕄 :=
  Transfers.Flight countersEmb (c : Thread nD τ) (planeCell k) () (planeCredit k) (planeDone c d0 d1 k)
abbrev headFlight (c : Dev nD) (d0 d1 : S32x128.Idx → BitVec 32) : sProp 𝕄 :=
  Transfers.Flight countersEmb (c : Thread nD τ) headCell () headCredit (headDone c d0 d1)

theorem planeCredit_pos (k : Fin 64) : 0 < planeCredit k := View.dmaCredit_pos _ (by decide)
theorem headCredit_pos : 0 < headCredit := View.dmaCredit_pos _ (by decide)

/-! ## One start, one wait -/

/-- Plane transfer `k` started: its share of the zeros and its part of the result go into the flight. -/
theorem wp_startPlane (c : Dev nD) (d0 d1 : S32x128.Idx → BitVec 32) (f : Buf (Elt F) ((c : Thread nD τ).loc main_v6)) (k : ℕ) (h : k < 64)
    (K : PUnit → sProp 𝕄) :
    iprop(iprop(zeroTok c ⟨k, h⟩ ∗ planePt c f ⟨k, h⟩ ∗ semVal ((c : Thread nD τ), planeCell ⟨k, h⟩) 0) ∗ emp
        ∗ (iprop(planeFlight c d0 d1 ⟨k, h⟩ ∗ emp) -∗ K ⟨⟩))
      ⊢ wpc c (startPlane outM (Memref.isWhole_whole _) zeroM (Memref.isWhole_whole _) cc0_scratch2 k h) K := by
  unfold startPlane
  simp only [Prog.lift]
  iintro ⟨⟨Hz, Hp, Hv⟩, He, Hk⟩
  iapply (Transfers.wp_dmaLocal countersEmb Variants.none (c : Thread nD τ) none () (planeCredit ⟨k, h⟩) rfl
    (planeCredit_pos ⟨k, h⟩) (Finset.Subset.refl _)) $$ [Hz Hp Hv]
  · isplitl [Hz]; · iexact Hz
    isplitl [Hp] <;> iassumption
  iintro Hf
  iapply (le_wp_ret frame (wpE (defs₀ (F := F)) Variants.none c none) Set.univ PUnit.unit K)
  iapply Hk
  isplitl [Hf]
  · iapply (Transfers.Flight_mono countersEmb (c : Thread nD τ) (sep_mono_l (Entails.of_eq
      (pointsTo_congr (plane_written d0 d1 h f))))) $$ Hf
  iexact He

/-- Its wait: the part of the result written, the share and the cell back. -/
theorem wp_waitPlane (c : Dev nD) (d0 d1 : S32x128.Idx → BitVec 32) (k : ℕ) (h : k < 64) (K : PUnit → sProp 𝕄) :
    iprop(planeFlight c d0 d1 ⟨k, h⟩ ∗ (∃ W, owes (c : Thread nD τ) 0 W)
        ∗ (iprop(iprop(planeDone c d0 d1 ⟨k, h⟩ ∗ semVal ((c : Thread nD τ), planeCell ⟨k, h⟩) 0) ∗ (∃ W, owes (c : Thread nD τ) 0 W)) -∗ K ⟨⟩))
      ⊢ wpc c (waitPlane outM (Memref.isWhole_whole _) zeroM (Memref.isWhole_whole _) cc0_scratch2 k h) K := by
  unfold waitPlane
  simp only [Prog.lift]
  iintro ⟨Hf, ⟨%W, HO⟩, Hk⟩
  iapply (Transfers.wp_waitLocal countersEmb Variants.none (c : Thread nD τ) none () (N := planeCredit ⟨k, h⟩) rfl) $$ [Hf HO]
  · isplitl [Hf] <;> iassumption
  iintro ⟨Hd, Hv, HO⟩
  iapply (le_wp_ret frame (wpE (defs₀ (F := F)) Variants.none c none) Set.univ PUnit.unit K)
  iapply Hk
  isplitl [Hd Hv]
  · isplitl [Hd] <;> iassumption
  iexists _; iexact HO

/-- The head's transfer started. -/
theorem wp_startHead (c : Dev nD) (d0 d1 : S32x128.Idx → BitVec 32) (f : Buf (Elt F) ((c : Thread nD τ).loc main_v6)) (K : PUnit → sProp 𝕄) :
    iprop(iprop(slabPt c d0 d1 ∗ headPt c f ∗ semVal ((c : Thread nD τ), headCell) 0) ∗ (headFlight c d0 d1 -∗ K ⟨⟩))
      ⊢ wpc c (startHead outM (Memref.isWhole_whole _) slabM (Memref.isWhole_whole _) cc0_scratch3) K := by
  unfold startHead
  simp only [Prog.lift]
  iintro ⟨⟨Hz, Hp, Hv⟩, Hk⟩
  iapply (Transfers.wp_dmaLocal countersEmb Variants.none (c : Thread nD τ) none () headCredit rfl headCredit_pos (Finset.Subset.refl _)) $$ [Hz Hp Hv]
  · isplitl [Hz]; · iexact Hz
    isplitl [Hp] <;> iassumption
  iintro Hf
  iapply (le_wp_ret frame (wpE (defs₀ (F := F)) Variants.none c none) Set.univ PUnit.unit K)
  iapply Hk
  iapply (Transfers.Flight_mono countersEmb (c : Thread nD τ) (sep_mono_l (Entails.of_eq
    (pointsTo_congr (head_written d0 d1 f))))) $$ Hf

/-- Its wait. -/
theorem wp_waitHead (c : Dev nD) (d0 d1 : S32x128.Idx → BitVec 32) (W : Waits sig Unit) (K : PUnit → sProp 𝕄) :
    iprop(headFlight c d0 d1 ∗ owes (c : Thread nD τ) 0 W
        ∗ (iprop(headDone c d0 d1 ∗ semVal ((c : Thread nD τ), headCell) 0 ∗ (∃ W, owes (c : Thread nD τ) 0 W)) -∗ K ⟨⟩))
      ⊢ wpc c (waitHead outM (Memref.isWhole_whole _) slabM (Memref.isWhole_whole _) cc0_scratch3) K := by
  unfold waitHead
  simp only [Prog.lift]
  iintro ⟨Hf, HO, Hk⟩
  iapply (Transfers.wp_waitLocal countersEmb Variants.none (c : Thread nD τ) none () (N := headCredit) rfl) $$ [Hf HO]
  · isplitl [Hf] <;> iassumption
  iintro ⟨Hd, Hv, HO⟩
  iapply (le_wp_ret frame (wpE (defs₀ (F := F)) Variants.none c none) Set.univ PUnit.unit K)
  iapply Hk
  isplitl [Hd]; · iexact Hd
  isplitl [Hv]; · iexact Hv
  iexists _; iexact HO

/-! ## The result in parts -/

/-- The whole result is the head's part and the 64 planes' parts. -/
theorem out_parts (c : Dev nD) (f : Buf (Elt F) ((c : Thread nD τ).loc main_v6)) :
    ((c : Thread nD τ).loc main_v6 ↦{fullShare} f : sProp 𝕄) ⊣⊢ iprop(headPt c f ∗ bigSep Finset.univ (planePt c f)) := by
  have hu : (Finset.univ : Finset S64x8192x128.Idx)
      = (headAt outM).view.set ∪ (Finset.univ : Finset (Fin 64)).biUnion fun k => (planeAt outM k.val k.isLt).view.set := by
    refine (Finset.eq_univ_iff_forall.mpr fun i => ?_).symm
    rw [Finset.mem_union, Finset.mem_biUnion]
    by_cases h : (i 1).val < 16
    · exact Or.inl ((mem_head i).mpr h)
    · exact Or.inr ⟨⟨(i 0).val, (i 0).isLt⟩, Finset.mem_univ _, (mem_plane _ i).mpr ⟨rfl, Nat.le_of_not_lt h⟩⟩
  have hd : Disjoint (headAt outM).view.set ((Finset.univ : Finset (Fin 64)).biUnion fun k => (planeAt outM k.val k.isLt).view.set) := by
    refine Finset.disjoint_left.mpr fun i h1 h2 => ?_
    obtain ⟨k, -, hk⟩ := Finset.mem_biUnion.mp h2
    exact absurd ((mem_head i).mp h1) (Nat.not_lt.mpr ((mem_plane k.isLt i).mp hk).2)
  have hp : ∀ k ∈ (Finset.univ : Finset (Fin 64)), ∀ k' ∈ (Finset.univ : Finset (Fin 64)), k ≠ k' →
      Disjoint (planeAt outM k.val k.isLt).view.set (planeAt outM k'.val k'.isLt).view.set := by
    intro k _ k' _ hne
    refine Finset.disjoint_left.mpr fun i h1 h2 => hne (Fin.ext ?_)
    rw [← ((mem_plane k.isLt i).mp h1).1, ((mem_plane k'.isLt i).mp h2).1]
  have e : ((c : Thread nD τ).loc main_v6 ↦[(Finset.univ : Finset (Fin 64)).biUnion fun k => (planeAt outM k.val k.isLt).view.set]{fullShare} f : sProp 𝕄)
      = bigSep Finset.univ (planePt c f) := pointsTo_biUnion _ _ hp
  have u : ((c : Thread nD τ).loc main_v6 ↦[(headAt outM).view.set
        ∪ (Finset.univ : Finset (Fin 64)).biUnion fun k => (planeAt outM k.val k.isLt).view.set]{fullShare} f : sProp 𝕄)
      ⊣⊢ iprop(headPt c f ∗ _) := pointsTo_union hd
  rw [e] at u
  have w : ((c : Thread nD τ).loc main_v6 ↦{fullShare} f : sProp 𝕄)
      = ((c : Thread nD τ).loc main_v6 ↦[(headAt outM).view.set
        ∪ (Finset.univ : Finset (Fin 64)).biUnion fun k => (planeAt outM k.val k.isLt).view.set]{fullShare} f) :=
    congrArg (fun S => ((c : Thread nD τ).loc main_v6 ↦[S]{fullShare} f : sProp 𝕄)) hu
  rw [w]
  exact u

/-- The zero scratch is what stays with the core and the 64 transfers' shares. -/
theorem zero_parts (c : Dev nD) :
    (zeroM.view.loc (c : Thread nD τ) ↦{fullShare} zeros : sProp 𝕄)
      ⊣⊢ iprop((zeroM.view.loc (c : Thread nD τ) ↦[zeroM.view.set]{Transfers.shareDrop fullShare 64} zeros) ∗ bigSep Finset.univ (zeroTok (F := F) c)) := by
  have h : (zeroM.view.loc (c : Thread nD τ) ↦{fullShare} zeros : sProp 𝕄) = (zeroM.view.loc (c : Thread nD τ) ↦[zeroM.view.set]{fullShare} zeros) :=
    congrArg (fun S => (zeroM.view.loc (c : Thread nD τ) ↦[S]{fullShare} zeros : sProp 𝕄)) (View.set_whole cc0_scratch1).symm
  rw [h]
  exact Transfers.pointsTo_toks fullShare 64

/-- A family of pairs is the pair of the families. -/
theorem pairs (A B : Fin 64 → sProp 𝕄) :
    bigSep Finset.univ (fun k => iprop(A k ∗ B k)) = iprop(bigSep Finset.univ A ∗ bigSep Finset.univ B) := bigSep_sep _ A B

/-! ## The four steps together -/

/-- All transfers started, then all waited for. -/
def moveAll : Prog (TpuEff nD τ sig (Elt F) Λ₀ .tc) PUnit := do
  startHead outM (Memref.isWhole_whole _) slabM (Memref.isWhole_whole _) cc0_scratch3
  upto 64 (startPlane outM (Memref.isWhole_whole _) zeroM (Memref.isWhole_whole _) cc0_scratch2)
  waitHead outM (Memref.isWhole_whole _) slabM (Memref.isWhole_whole _) cc0_scratch3
  upto 64 (waitPlane outM (Memref.isWhole_whole _) zeroM (Memref.isWhole_whole _) cc0_scratch2)

/-- From the filled slab, the zeros, the result at anything and every cell at zero, the transfers leave the result filled and give
    everything else back. -/
theorem wp_moveAll (c : Dev nD) (d0 d1 : S32x128.Idx → BitVec 32) (f : Buf (Elt F) ((c : Thread nD τ).loc main_v6)) (W : Waits sig Unit) (K : PUnit → sProp 𝕄) :
    iprop(slabPt c d0 d1 ∗ (zeroM.view.loc (c : Thread nD τ) ↦{fullShare} zeros) ∗ ((c : Thread nD τ).loc main_v6 ↦{fullShare} f)
        ∗ bigSep Finset.univ (fun k => semVal ((c : Thread nD τ), planeCell k) 0) ∗ semVal ((c : Thread nD τ), headCell) 0
        ∗ owes (c : Thread nD τ) 0 W
        ∗ (iprop(slabPt c d0 d1 ∗ (zeroM.view.loc (c : Thread nD τ) ↦{fullShare} zeros) ∗ ((c : Thread nD τ).loc main_v6 ↦{fullShare} filledOut d0 d1)
          ∗ bigSep Finset.univ (fun k => semVal ((c : Thread nD τ), planeCell k) 0) ∗ semVal ((c : Thread nD τ), headCell) 0
          ∗ (∃ W, owes (c : Thread nD τ) 0 W)) -∗ K ⟨⟩))
      ⊢ wpc c moveAll K := by
  unfold moveAll
  rw [wpc, wp_bind]
  iintro ⟨Hs, Hz, Ho, Hv, Hh, HO, Hk⟩
  ihave Ho := (out_parts c f).1 $$ Ho
  ihave Hz := (zero_parts (F := F) c).1 $$ Hz
  icases Ho with ⟨Hoh, Hop⟩
  icases Hz with ⟨Hzr, Hzt⟩
  iapply (wp_startHead c d0 d1 f)
  isplitl [Hs Hoh Hh]
  · isplitl [Hs]; · iexact Hs
    isplitl [Hoh] <;> iassumption
  iintro Hfh
  iapply (Entails.of_eq (wp_bind frame (wpE (defs₀ (F := F)) Variants.none c none) Set.univ _ _ K).symm)
  iapply (wp_each c (fun k => iprop(zeroTok c k ∗ planePt c f k ∗ semVal ((c : Thread nD τ), planeCell k) 0)) (planeFlight c d0 d1) iprop(emp)
    (fun k h K => wp_startPlane c d0 d1 f k h K))
  isplitl [Hzt Hop Hv]
  · rw [pairs, pairs]
    isplitl [Hzt]; · iexact Hzt
    isplitl [Hop] <;> iassumption
  isplitr; · iempintro
  iintro ⟨Hf, -⟩
  iapply (Entails.of_eq (wp_bind frame (wpE (defs₀ (F := F)) Variants.none c none) Set.univ _ _ K).symm)
  iapply (wp_waitHead c d0 d1 W)
  isplitl [Hfh]; · iexact Hfh
  isplitl [HO]; · iexact HO
  iintro ⟨⟨Hoh, Hs⟩, Hh, HO⟩
  iapply (wp_each c (planeFlight c d0 d1) (fun k => iprop(planeDone c d0 d1 k ∗ semVal ((c : Thread nD τ), planeCell k) 0))
    iprop(∃ W, owes (c : Thread nD τ) 0 W) (fun k h K => wp_waitPlane c d0 d1 k h K))
  isplitl [Hf]; · iexact Hf
  isplitl [HO]; · iexact HO
  rw [pairs, pairs]
  iintro ⟨⟨⟨Hop, Hzt⟩, Hv⟩, HO⟩
  iapply Hk
  isplitl [Hs]; · iexact Hs
  isplitl [Hzr Hzt]
  · iapply (zero_parts (F := F) c).2
    isplitl [Hzr] <;> iassumption
  isplitl [Hoh Hop]
  · iapply (out_parts c (filledOut d0 d1)).2
    isplitl [Hoh] <;> iassumption
  isplitl [Hv]; · iexact Hv
  isplitl [Hh] <;> iassumption

end Cert.Kernel.Hand

end
-- ==== Proof.Fill.lean ====
/-
  Hand-written, untrusted. The kernel body's triple: from the two token arrays in their staging buffers, the scratches and the
  result at anything and every cell at zero, the body leaves the result filled (`filledOut`) and gives the rest back.
-/
module

public import proofs.«01_k».proof.Proof.Moves

@[expose] public section

set_option Elab.async false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The kernel's own cells: one per plane, and the head's. -/
def osem : Option (Fin 64) → SemLoc sig
  | some k => planeCell k
  | none => headCell

/-- They are scoped, distinct, and no staging semaphore. -/
theorem ownSemFacts : Pipeline.OwnSemFacts spec0 osem := by
  decide +kernel

/-- All of them at zero: the planes' and the head's. -/
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), headCell) 0 ∗ bigSep Finset.univ fun k => semVal ((c : Thread nD τ), planeCell k) 0) := by
  have hu : (Finset.univ : Finset (Option (Fin 64))) = insert none (Finset.univ.map Function.Embedding.some) := by
    ext x; cases x <;> simp
  unfold Pipeline.ownSems0
  rw [hu, bigSep_insert (by simp), bigSep_map]
  rfl

/-- The body's triple, for any continuation. -/
theorem wp_fill (c : Dev nD) (a0 a1 : Memref sig .tc .vmem S32x128 .i32) (h0 : a0.IsWhole) (h1 : a1.IsWhole) (d0 d1 : S32x128.Idx → BitVec 32)
    (f : Buf (Elt F) ((c : Thread nD τ).loc main_v6)) (W : Waits sig Unit) (K : PUnit → sProp 𝕄) :
    iprop(owns (c : Thread nD τ) a0 fullShare d0 ∗ owns (c : Thread nD τ) a1 fullShare d1
        ∗ (∃ f3 : Buf (Elt F) ((c : Thread nD τ).loc cc0_scratch0), ((c : Thread nD τ).loc cc0_scratch0) ↦{fullShare} f3)
        ∗ (∃ f4 : Buf (Elt F) ((c : Thread nD τ).loc cc0_scratch1), ((c : Thread nD τ).loc cc0_scratch1) ↦{fullShare} f4)
        ∗ semVal ((c : Thread nD τ), headCell) 0 ∗ (bigSep Finset.univ fun k => semVal ((c : Thread nD τ), planeCell k) 0)
        ∗ ((c : Thread nD τ).loc main_v6 ↦{fullShare} f) ∗ owes (c : Thread nD τ) 0 W
        ∗ (iprop(owns (c : Thread nD τ) a0 fullShare d0 ∗ owns (c : Thread nD τ) a1 fullShare d1
            ∗ (∃ f3 : Buf (Elt F) ((c : Thread nD τ).loc cc0_scratch0), ((c : Thread nD τ).loc cc0_scratch0) ↦{fullShare} f3)
            ∗ (∃ f4 : Buf (Elt F) ((c : Thread nD τ).loc cc0_scratch1), ((c : Thread nD τ).loc cc0_scratch1) ↦{fullShare} f4)
            ∗ semVal ((c : Thread nD τ), headCell) 0 ∗ (bigSep Finset.univ fun k => semVal ((c : Thread nD τ), planeCell k) 0)
            ∗ ((c : Thread nD τ).loc main_v6 ↦{fullShare} filledOut d0 d1) ∗ (∃ W, owes (c : Thread nD τ) 0 W)) -∗ K ⟨⟩))
      ⊢ wpc c (cc0__fill_body a0 h0 a1 h1 outM (Memref.isWhole_whole _) slabM (Memref.isWhole_whole _) zeroM (Memref.isWhole_whole _) cc0_scratch2 cc0_scratch3) K := by
  rw [fill_eq, show (fillLoop a0 a1 outM (Memref.isWhole_whole _) slabM (Memref.isWhole_whole _) zeroM (Memref.isWhole_whole _) cc0_scratch2 cc0_scratch3
      : Prog (TpuEff nD τ sig (Elt F) Λ₀ .tc) PUnit)
    = (clear slabM zeroM >>= fun _ => upto 32 (copyRows a0 a1 slabM) >>= fun _ => moveAll) from rfl, wpc, wp_bind]
  unfold owns
  iintro ⟨⟨%f0, %e0, H0⟩, ⟨%f1, %e1, H1⟩, ⟨%f3, H3⟩, ⟨%f4, H4⟩, Hh, Hv, Ho, HO, Hk⟩
  iapply (wp_clear c d0 d1 f3 f4)
  isplitl [H3]; · iexact H3
  isplitl [H4]; · iexact H4
  iintro ⟨H3, H4⟩
  iapply (Entails.of_eq (wp_bind frame (wpE (defs₀ (F := F)) Variants.none c none) Set.univ _ _ K).symm)
  iapply (wp_rows c a0 a1 f0 f1 d0 d1 e0 e1)
  rw [filled_zero]
  isplitl [H0 H1 H3]
  · isplitl [H0]; · iexact H0
    isplitl [H1] <;> iassumption
  iintro ⟨H0, H1, H3⟩
  iapply (wp_moveAll c d0 d1 f W K)
  unfold slabPt
  rw [show slabM.view.set = Finset.univ from View.set_whole cc0_scratch0]
  isplitl [H3]; · iexact H3
  isplitl [H4]; · iexact H4
  isplitl [Ho]; · iexact Ho
  isplitl [Hv]; · iexact Hv
  isplitl [Hh]; · iexact Hh
  isplitl [HO]; · iexact HO
  iintro ⟨H3, H4, Ho, Hv, Hh, HO⟩
  iapply Hk
  isplitl [H0]
  · iexists f0; isplitr; · ipureintro; exact e0
    iexact H0
  isplitl [H1]
  · iexists f1; isplitr; · ipureintro; exact e1
    iexact H1
  isplitl [H3]; · iexists _; iexact H3
  isplitl [H4]; · iexists _; iexact H4
  isplitl [Hh]; · iexact Hh
  isplitl [Hv]; · iexact Hv
  isplitl [Ho] <;> iassumption

end Cert.Kernel.Hand

end
-- ==== Proof.Run.lean ====
/-
  Hand-written, untrusted. The launch: the region's proof data and body obligation, and the whole run of the kernel's program. The
  result buffer bypasses the windows: the invariant holds it at what the region finds in it, and after the one point at the filled
  contents.
-/
module

public import proofs.«01_k».proof.Proof.Fill
public import Idealize.ShloMosaic.Lib.Pipeline.FrameSuffixV

@[expose] public section

set_option Elab.async false
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The token words the region finds: window 0's block and window 1's. -/
abbrev keyWords (c : Dev nD) : S32x128.Idx → BitVec 32 := iblk m c 0 t0_0
abbrev valWords (c : Dev nD) : S32x128.Idx → BitVec 32 := iblk m c 1 t0_0

/-- The buffers as the region leaves them: the result filled, every other as found. -/
def leftIn (c : Dev nD) (b : Ref sig .tc) : Buf (Elt F) ((c : Thread nD τ).loc b) :=
  Function.update (V m c) main_v6 (filledOut (keyWords m c) (valWords m c)) b

theorem leftIn_out (c : Dev nD) : leftIn m c main_v6 = filledOut (keyWords m c) (valWords m c) := Function.update_self ..

/-- The buffers after `n` points. -/
def outAt (n : ℕ) : (c : Dev nD) → (b : Ref sig .tc) → Buf (Elt F) ((c : Thread nD τ).loc b) :=
  match n with
  | 0 => V m
  | _ + 1 => leftIn m

/-- The invariant after `n` points: the scratches at anything, the kernel's own cells at zero, the result as `outAt` has it. -/
abbrev Inv (n : ℕ) (c : Dev nD) : sProp 𝕄 := Pipeline.ΦDRV osem spec0 ∅ {main_v6} (V m) (outAt m n) c

theorem Inv_eq (n : ℕ) (c : Dev nD) :
    Inv m n c = iprop(iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ iprop(semVal ((c : Thread nD τ), headCell) 0 ∗ bigSep Finset.univ fun k => semVal ((c : Thread nD τ), planeCell k) 0)
        ∗ emp ∗ ((c : Thread nD τ).loc main_v6 ↦{fullShare} outAt m n c main_v6)) := by
  unfold Inv Pipeline.ΦDRV
  rw [scopedRest0_eq, ownSems_eq, bigSep_empty, bigSep_singleton]
  rfl

/-- The proof data on core `c`: each window's array as the region finds it, each block left in place. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | ⟨_ + 2, h⟩ => absurd h (Nat.not_lt.2 (Nat.le_add_left _ _))
  Φ t := Inv m t.val c
  q _ := fullShare
  owed _ := 0

theorem A_eq (c : Dev nD) (w : Fin cfg0.W) : (dats m 0 c).A w = V m c (Pipeline.arrRef spec0 w) := by dsimp only [dats]

/-- A window's staging buffer holds its block when the body starts. -/
theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t))

/-- The body at the point. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ (Fin.castSucc t0_0) = Inv m 0 c from rfl, show (dats m 0 c).Φ (Fin.succ t0_0) = Inv m 1 c from rfl, Inv_eq, Inv_eq,
    show outAt m 1 c main_v6 = filledOut (keyWords m c) (valWords m c) from leftIn_out m c]
  simp only [before0, before1]
  unfold Dat.owesAt Pipeline.owesWithin
  rw [show (dats m 0 c).owed (Fin.castSucc t0_0) = 0 from rfl, show (dats m 0 c).owed (Fin.succ t0_0) = 0 from rfl]
  iintro ⟨⟨⟨H3, H4⟩, ⟨Hh, Hv⟩, -, Ho⟩, ⟨%W, %hW, HO⟩, ⟨%_d0, H0⟩, ⟨%_d1, H1⟩⟩
  iapply (wp_fill c (st0_0 t0_0) (st0_1 t0_0) (hstage0_0 0) (hstage0_1 0) (keyWords m c) (valWords m c) (outAt m 0 c main_v6) W _)
  isplitl [H0]; · iexact H0
  isplitl [H1]; · iexact H1
  isplitl [H3]; · iexact H3
  isplitl [H4]; · iexact H4
  isplitl [Hh]; · iexact Hh
  isplitl [Hv]; · iexact Hv
  isplitl [Ho]; · iexact Ho
  isplitl [HO]; · iexact HO
  iintro ⟨H0, H1, H3, H4, Hh, Hv, Ho, ⟨%W', HO⟩⟩
  isplitl [H3 H4 Hh Hv Ho]
  · isplitl [H3 H4]
    · isplitl [H3] <;> iassumption
    isplitl [Hh Hv]
    · isplitl [Hh] <;> iassumption
    isplitr; · iempintro
    iexact Ho
  isplitl [HO]
  · iexists W'; isplitr; · ipureintro; exact fun _ _ => Or.inl trivial
    iexact HO
  isplitl [H0] <;> iassumption

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation: the triple restated. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- @main around the region, at the algebra the transfers run in. -/
theorem hmainD (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Core `c`'s buffers after the region: the windows' arrays, the result filled, every other as the region found it. -/
abbrev tailV (c : Dev nD) : Valuation τ sig (Elt F) :=
  Pipeline.withArrays spec0 c (Pipeline.withR (V0 m c) {main_v6} c (leftIn m c)) fun w => (dats m 0 c).arrAt w cfg0.N

/-- What the run ends with: every bypassing buffer as the line after the region leaves it, every counter at zero. -/
def Ends (r : PUnit × MemSt nD τ sig (Elt F)) : Prop :=
  (∀ c : Dev nD, ∀ b ∈ Pipeline.restRefs sig spec0,
    r.2.mem ((c : Thread nD τ).loc b) = StableHlo.after [hostOps1].flatten (tailV m c) (Proc.devRef .tc b)) ∧ r.2.sem = fun _ => 0

set_option backward.isDefEq.respectTransparency.types false in
/-- At any value instance, from any memory with zero counters: every weakly fair execution of @main terminates, in a state with `Ends`. -/
theorem run_main : θ_run defs (onTc (τ := τ) (main (F := F))) (s₀ m ρ) (Ends m) :=
  Pipeline.θ_run_frame_dmaR_aroundV cfgs (dats m) (0 : Fin 1) launch0 osem defs₀ Variants.none ownSemFacts ∅ {main_v6}
    (Finset.empty_subset _) (by decide) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := leftIn m)
    (hmain := hmainD m Variants.none) (hA := A_eq m) (hin := fun _ => .rfl) (hout := fun _ => .rfl)
    (Q' := Ends m) (hQ' := fun _ h => ⟨fun c => (h.1 c).2, h.2⟩)

variable {m}

/-- The buffer the region leaves in the result. -/
theorem tailV_out (c : Dev nD) : tailV m c (Proc.devRef .tc main_v6) = filledOut (keyWords m c) (valWords m c) := by
  unfold tailV
  rw [Pipeline.withArrays_of_ne spec0 c _ _ main_v6 (by decide)]
  exact (Pipeline.withR_of_mem (V0 m c) {main_v6} c (leftIn m c) main_v6 (Finset.mem_singleton_self _)).trans (leftIn_out m c)

/-- The kernel's result at the end: the filled buffer at the result's shape. -/
theorem ends_result {r : PUnit × MemSt nD τ sig (Elt F)} (h : Ends m r) (c : Dev nD) :
    r.2.mem ((c : Thread nD τ).loc main_v7)
      = shapeCast S2x1x32x8192x128 (filledOut (F := F) (keyWords m c) (valWords m c)) shapeCasts_S64x8192x128_S2x1x32x8192x128 := by
  rw [h.1 c main_v7 (Pipeline.mem_restRefs_of main_v7 (by decide) (by decide))]
  show (StableHlo.reshape main_v6 main_v7 (rfl : (.f16 : EltTy) = .f16) shapeCasts_S64x8192x128_S2x1x32x8192x128).result (tailV m c) (Proc.devRef .tc main_v7) = _
  rw [StableHlo.reshape_result, tailV_out]
  rfl

/-- A bypassing buffer that no host operation writes and the transfers do not reach ends as launched. -/
theorem ends_kept {r : PUnit × MemSt nD τ sig (Elt F)} (h : Ends m r) (c : Dev nD) (b : Ref sig .tc) (hb : b ∈ Pipeline.restRefs sig spec0)
    (h6 : b ≠ main_v6) (h7 : b ≠ main_v7) (hw : ∀ w, Pipeline.arrRef spec0 w ≠ b) (hV : V m c b = m ((c : Thread nD τ).loc b)) :
    r.2.mem ((c : Thread nD τ).loc b) = m ((c : Thread nD τ).loc b) := by
  rw [h.1 c b hb]
  show (StableHlo.reshape main_v6 main_v7 (rfl : (.f16 : EltTy) = .f16) shapeCasts_S64x8192x128_S2x1x32x8192x128).result (tailV m c) (Proc.devRef .tc b) = _
  rw [StableHlo.reshape_result_ne _ _ _ _ _ _ _ h7]
  unfold tailV
  rw [Pipeline.withArrays_of_ne spec0 c _ _ b hw, Pipeline.withR_of_not_mem _ _ _ _ _ (by simpa using h6)]
  exact hV

/-- The argument arrays end as launched. -/
theorem ends_args {r : PUnit × MemSt nD τ sig (Elt F)} (h : Ends m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨ends_kept h c main_arg0 (Pipeline.mem_restRefs_of main_arg0 (by decide) (by decide)) (by decide) (by decide) (by decide) (V_main_arg0 m c),
    ends_kept h c main_arg1 (Pipeline.mem_restRefs_of main_arg1 (by decide) (by decide)) (by decide) (by decide) (by decide) (V_main_arg1 m c),
    ends_kept h c main_arg2 (Pipeline.mem_restRefs_of main_arg2 (by decide) (by decide)) (by decide) (by decide) (by decide) (V_main_arg2 m c),
    ends_kept h c main_arg3 (Pipeline.mem_restRefs_of main_arg3 (by decide) (by decide)) (by decide) (by decide) (by decide) (V_main_arg3 m c)⟩

end Cert.Kernel.Hand

end
-- ==== Proof.Value.lean ====
/-
  Hand-written, untrusted. What both programs compute: `expected`, the tokens in row 0 of every head of a cache that is zero
  elsewhere; the kernel's filled result is it, and so is the reference's term over fresh caches.
-/
module

public import proofs.«01_k».proof.Proof.Run
public import proofs.«01_k».proof.Pre_fresh_rows
public import proofs.«01_k».proof.Proof.Gen.Reference
public import Idealize.ShloMosaic.Lib.Claim
public import Idealize.ShloMosaic.Lib.Pipeline.Value
public import Idealize.ShloMosaic.Lib.Pipeline.ValueKit.Geometry
public import Idealize.ShloMosaic.PureOps.BitExact
public import Idealize.ShloMosaic.Lib.ValueIdx
public import Idealize.ShloMosaic.Lib.Pointwise.ShapeOpsCore

@[expose] public section

set_option Elab.async false
set_option maxRecDepth 16384

noncomputable section

namespace Cert.Kernel.Hand

open Cert.Kernel Cert.Kernel.Gen
open Idealize.ShloMosaic Idealize.ShloMosaic.TcCoe Idealize.ShloMosaic.Tactic

/-- The updated caches, stacked: at cache `i 0` (0 keys, 1 values), head `i 2`, row `i 3` and lane `i 4`, the new token in row 0
    and the zero word in every other. -/
def expected (k v : S1x32x1x128.Idx → Elt Bits .f16) (i : S2x1x32x8192x128.Idx) : Elt Bits .f16 :=
  if (i 3).val = 0 then (if (i 0).val = 0 then k else v) (ix4 (0 : Fin 1) (i 2) (0 : Fin 1) (i 4)) else (0#16 : BitVec 16)

/-! ## The kernel -/

section words
variable {F : FTy → Type} [BitOps F] [∀ e, Nonempty (Elt F e)] (m : (ℓ : Loc nD τ sig) → Buf (Elt F) ℓ)

/-- A token array laid out by heads and lanes, its words widened to 32 bits: at head `h`, lane `l` the token's bits there. -/
theorem widened_apply (x : FVec F S1x32x1x128 .f16) (h : Fin 32) (l : Fin 128) :
    extui 32 (bitcastToInt (shapeCast S32x128 x shapeCasts_S1x32x1x128_S32x128)) natLt_16_32 (ix2 h l)
      = (BitOps.toBits (x (ix4 (0 : Fin 1) h (0 : Fin 1) l))).setWidth 32 := by
  show (BitOps.toBits (shapeCast S32x128 x shapeCasts_S1x32x1x128_S32x128 (ix2 h l))).setWidth 32 = _
  rw [shapeCast_apply x shapeCasts_S1x32x1x128_S32x128 (ix2 h l) (ix4 (0 : Fin 1) h (0 : Fin 1) l)]
  rw [Shape.rowMajor_val_two, Shape.rowMajor_val_four]
  simp

/-- The key words the region finds: each key token's bits, widened. -/
theorem keyWords_apply (c : Dev nD) (h : Fin 32) (l : Fin 128) :
    keyWords m c (ix2 h l)
      = (BitOps.toBits (F := F) (φ := .f16) (m ((c : Thread nD τ).loc main_arg0) (ix4 (0 : Fin 1) h (0 : Fin 1) l))).setWidth 32 := by
  have e : V m c main_v2 = extui 32 (bitcastToInt (F := F) (φ := .f16) (shapeCast S32x128 (m ((c : Thread nD τ).loc main_arg0))
      shapeCasts_S1x32x1x128_S32x128)) natLt_16_32 := rfl
  refine (?_ : keyWords m c (ix2 h l) = V m c main_v2 (ix2 h l)).trans ((congrFun e _).trans (widened_apply _ h l))
  unfold keyWords iblk
  rw [View.read_apply]
  refine congrArg (V m c main_v2) (funext fun a => Fin.ext ?_)
  blk_simp
  fin_cases a <;> (simp; decide +kernel)

/-- The value words the region finds: each value token's bits, widened. -/
theorem valWords_apply (c : Dev nD) (h : Fin 32) (l : Fin 128) :
    valWords m c (ix2 h l)
      = (BitOps.toBits (F := F) (φ := .f16) (m ((c : Thread nD τ).loc main_arg1) (ix4 (0 : Fin 1) h (0 : Fin 1) l))).setWidth 32 := by
  have e : V m c main_v5 = extui 32 (bitcastToInt (F := F) (φ := .f16) (shapeCast S32x128 (m ((c : Thread nD τ).loc main_arg1))
      shapeCasts_S1x32x1x128_S32x128)) natLt_16_32 := rfl
  refine (?_ : valWords m c (ix2 h l) = V m c main_v5 (ix2 h l)).trans ((congrFun e _).trans (widened_apply _ h l))
  unfold valWords iblk
  rw [View.read_apply]
  refine congrArg (V m c main_v5) (funext fun a => Fin.ext ?_)
  blk_simp
  fin_cases a <;> (simp; decide +kernel)

end words

/-- A widened 16-bit pattern is in row 0 itself and in row 1 zero. -/
theorem half_widened (b : BitVec 16) : half (F := Bits) (b.setWidth 32) 0 = b ∧ half (F := Bits) (b.setWidth 32) 1 = (0#16 : BitVec 16) := by
  constructor
  · show (b.setWidth 32).extractLsb' 0 16 = b
    ext i hi; simp [hi]; omega
  · show (b.setWidth 32).extractLsb' 16 16 = 0#16
    ext i hi; simp

/-- The kernel's result is the expected one. -/
theorem kernel_value (m : (ℓ : Loc nD τ sig) → Buf (Elt Bits) ℓ) (c : Dev nD) :
    shapeCast S2x1x32x8192x128 (filledOut (F := Bits) (keyWords m c) (valWords m c)) shapeCasts_S64x8192x128_S2x1x32x8192x128
      = expected (m ((c : Thread nD τ).loc main_arg0)) (m ((c : Thread nD τ).loc main_arg1)) := by
  funext i
  have b0 : (i 0).val < 2 := (i 0).isLt
  have b1 : (i 1).val < 1 := (i 1).isLt
  have b2 : (i 2).val < 32 := (i 2).isLt
  have b3 : (i 3).val < 8192 := (i 3).isLt
  have b4 : (i 4).val < 128 := (i 4).isLt
  have hp : (i 0).val * 32 + (i 2).val < 64 := by omega
  refine (shapeCast_apply _ _ i (ix3 (⟨(i 0).val * 32 + (i 2).val, hp⟩ : Fin 64) (i 3) (i 4)) ?_).trans ?_
  rotate_left
  · show half (F := Bits) (if (i 3).val < 2 then tok (keyWords m c) (valWords m c) ((i 0).val * 32 + (i 2).val) (i 4) else 0#32) (i 3).val = _
    -- the token word of the plane
    have et : tok (keyWords m c) (valWords m c) ((i 0).val * 32 + (i 2).val) (i 4)
        = BitVec.setWidth 32 ((if (i 0).val = 0 then (m ((c : Thread nD τ).loc main_arg0)) else (m ((c : Thread nD τ).loc main_arg1)))
            (ix4 (0 : Fin 1) (i 2) (0 : Fin 1) (i 4)) : BitVec 16) := by
      have eh : (⟨((i 0).val * 32 + (i 2).val) % 32, Nat.mod_lt _ (by omega)⟩ : Fin 32) = i 2 := Fin.ext (by show _ % 32 = (i 2).val; omega)
      unfold tok
      rw [eh]
      by_cases h0 : (i 0).val = 0
      · rw [if_pos (by omega), if_pos h0]
        exact keyWords_apply m c (i 2) (i 4)
      · rw [if_neg (by omega), if_neg h0]
        exact valWords_apply m c (i 2) (i 4)
    unfold expected
    by_cases h0 : (i 3).val = 0
    · rw [if_pos (by omega), if_pos h0, et, h0]
      exact (half_widened _).1
    · rw [if_neg h0]
      by_cases h1 : (i 3).val = 1
      · rw [if_pos (by omega), et, h1]
        exact (half_widened _).2
      · rw [if_neg (by omega)]
        exact half_zero _
  · rw [Shape.rowMajor_val_three, Shape.rowMajor_val_five]
    show (((i 0).val * 32 + (i 2).val) * 8192 + (i 3).val) * 128 + (i 4).val
      = ((((i 0).val * 1 + (i 1).val) * 32 + (i 2).val) * 8192 + (i 3).val) * 128 + (i 4).val
    rw [Nat.lt_one_iff.mp b1, Nat.mul_one, Nat.add_zero]

/-! ## The reference -/

/-- The precondition's side conditions: the rows it reads are the caches' past row 0, and the scalar it compares them with
    broadcasts to their shape. -/
theorem pre_facts : Cert.Pre_fresh_rows.Facts where
  slices_S1x32x8192x128_S1x32x8191x128_0_0_1_0 := by decide
  bcast_S_S1x32x8191x128 := by decide

/-- A cache whose rows past row 0 hold the zero word. -/
def Fresh (x : FVec Bits S1x32x8192x128 .f16) : Prop := ∀ i : S1x32x8192x128.Idx, (i 2).val ≠ 0 → x i = (0#16 : BitVec 16)

/-- The precondition says of both caches that they are fresh. -/
theorem fresh_of_pre (a0 a1 : FVec Bits S1x32x1x128 .f16) (a2 a3 : FVec Bits S1x32x8192x128 .f16)
    (h : @Cert.Pre_fresh_rows.fn pre_facts Bits _ a0 a1 a2 a3 = fun _ => 1#1) : Fresh a2 ∧ Fresh a3 := by
  have split (a b : BitVec 1) : IntOp.andi a b = 1#1 ↔ a = 1#1 ∧ b = 1#1 := by revert a b; decide
  have zero (x : BitVec 16) : IntOp.cmpi .eq x 0#16 = 1#1 → x = 0#16 := by
    intro hx
    by_contra hn
    have : (x == 0#16) = false := by simpa using hn
    simp [IntOp.cmpi, this] at hx
  -- the row past row 0 that the sliced row one above it reads
  have row (x : FVec Bits S1x32x8192x128 .f16)
      (hx : ∀ j, extractStridedSlice Cert.Pre_fresh_rows.S1x32x8191x128 ![0, 0, 1, 0] x
        pre_facts.slices_S1x32x8192x128_S1x32x8191x128_0_0_1_0 j = (0#16 : BitVec 16)) : Fresh x := by
    intro i hi
    have b2 : (i 2).val < 8192 := (i 2).isLt
    rw [← hx (ix4 (i 0) (i 1) (⟨(i 2).val - 1, by omega⟩ : Fin 8191) (i 3))]
    refine congrArg x (funext fun a => Fin.ext ?_)
    fin_cases a
    · exact (Nat.zero_add _).symm
    · exact (Nat.zero_add _).symm
    · show (i 2).val = 1 + ((i 2).val - 1)
      omega
    · exact (Nat.zero_add _).symm
  have both (j : Cert.Pre_fresh_rows.S1x32x8191x128.Idx) := (split _ _).mp (congrFun h j)
  exact ⟨row a2 fun j => zero _ (both j).1, row a3 fun j => zero _ (both j).2⟩

/-- A token written at row 0 of a fresh cache: the token in row 0 of every head, zero words elsewhere. -/
theorem updated_apply (cache : FVec Bits S1x32x8192x128 .f16) (hf : Fresh cache) (x : FVec Bits S1x32x1x128 .f16) (start : Fin 4 → Int)
    (hs : ∀ a, start a = 0) (i : S1x32x8192x128.Idx) :
    Host.dynamicUpdateSlice cache x start Cert.Reference.Gen.updateFits_S1x32x8192x128_S1x32x1x128 i
      = if (i 2).val = 0 then x (ix4 (0 : Fin 1) (i 1) (0 : Fin 1) (i 3)) else (0#16 : BitVec 16) := by
  have hc (a : Fin 4) : Host.clampedStart S1x32x8192x128 S1x32x1x128 rfl start a = 0 :=
    Host.clampedStart_of_le (s := S1x32x8192x128) (t := S1x32x1x128) rfl start a 0 (by rw [hs a]; rfl) (by revert a; decide)
  rw [Host.dynamicUpdateSlice_apply]
  by_cases h0 : (i 2).val = 0
  · rw [if_pos h0, dif_pos]
    · refine congrArg x (funext fun a => Fin.ext ?_)
      rw [Shape.Idx.norm_def]
      show (i a).val - Host.clampedStart S1x32x8192x128 S1x32x1x128 rfl start a = (ix4 (0 : Fin 1) (i 1) (0 : Fin 1) (i 3) a).val
      rw [hc, Nat.sub_zero]
      fin_cases a
      · exact Nat.lt_one_iff.mp (i 0).isLt
      · rfl
      · exact h0
      · rfl
    · intro a
      rw [hc, Nat.zero_add]
      refine ⟨Nat.zero_le _, ?_⟩
      fin_cases a
      · exact (i 0).isLt
      · exact (i 1).isLt
      · exact h0.trans_lt Nat.one_pos
      · exact (i 3).isLt
  · rw [if_neg h0, dif_neg]
    · exact hf i h0
    intro hin
    have := (hin 2).2
    rw [hc] at this
    exact h0 (by change (i 2).val < 0 + 1 at this; omega)

/-- The reference's result over fresh caches: each token written at row 0 of its cache, the two caches stacked. -/
theorem stacked_value (k v : FVec Bits S1x32x1x128 .f16) (ck cv : FVec Bits S1x32x8192x128 .f16)
    (hk : Fresh ck) (hv : Fresh cv) (s₀ s₁ : Fin 4 → Int) (h₀ : ∀ a, s₀ a = 0) (h₁ : ∀ a, s₁ a = 0) :
    concatenate S2x1x32x8192x128 0
        [⟨Cert.Reference.S1x1x32x8192x128, broadcastInDim Cert.Reference.S1x1x32x8192x128 ![1, 2, 3, 4]
            Cert.Reference.Gen.bcast_S1x32x8192x128_S1x1x32x8192x128_1_2_3_4
            (Host.dynamicUpdateSlice ck k s₀
              Cert.Reference.Gen.updateFits_S1x32x8192x128_S1x32x1x128)⟩,
          ⟨Cert.Reference.S1x1x32x8192x128, broadcastInDim Cert.Reference.S1x1x32x8192x128 ![1, 2, 3, 4]
            Cert.Reference.Gen.bcast_S1x32x8192x128_S1x1x32x8192x128_1_2_3_4
            (Host.dynamicUpdateSlice cv v s₁
              Cert.Reference.Gen.updateFits_S1x32x8192x128_S1x32x1x128)⟩]
        Cert.Reference.Gen.concatenates_S1x1x32x8192x128_S1x1x32x8192x128_S2x1x32x8192x128_d0
      = expected k v := by
  -- a stacked cache at its leading coordinate 0
  have row (cache : FVec Bits S1x32x8192x128 .f16) (hf : Fresh cache) (x : FVec Bits S1x32x1x128 .f16) (st : Fin 4 → Int) (hs : ∀ a, st a = 0) (i : S2x1x32x8192x128.Idx) :
      broadcastInDim Cert.Reference.S1x1x32x8192x128 ![1, 2, 3, 4] Cert.Reference.Gen.bcast_S1x32x8192x128_S1x1x32x8192x128_1_2_3_4
          (Host.dynamicUpdateSlice cache x st
            Cert.Reference.Gen.updateFits_S1x32x8192x128_S1x32x1x128)
          (ix5 (0 : Fin 1) (i 1) (i 2) (i 3) (i 4))
        = if (i 3).val = 0 then x (ix4 (0 : Fin 1) (i 2) (0 : Fin 1) (i 4)) else (0#16 : BitVec 16) := by
    refine (broadcastInDim_apply _ _ _ _ (ix4 (i 1) (i 2) (i 3) (i 4)) fun a => ?_).trans (updated_apply cache hf x st hs _)
    fin_cases a
    · exact Nat.lt_one_iff.mp (i 1).isLt
    · rfl
    · rfl
    · rfl
  funext i
  have b0 : (i 0).val < 2 := (i 0).isLt
  unfold expected
  by_cases h0 : (i 0).val = 0
  · rw [if_pos h0]
    refine (concatenate_pair_apply_left (t := S2x1x32x8192x128) (s₁ := Cert.Reference.S1x1x32x8192x128) (0 : Fin 5) _ _ _ i rfl (ix5 (0 : Fin 1) (i 1) (i 2) (i 3) (i 4)) fun b => ?_).trans (row ck hk k s₀ h₀ i)
    fin_cases b
    · exact h0.symm
    all_goals rfl
  · rw [if_neg h0]
    refine (concatenate_pair_apply_right (t := S2x1x32x8192x128) (s₁ := Cert.Reference.S1x1x32x8192x128)
      (s₂ := Cert.Reference.S1x1x32x8192x128) (0 : Fin 5) _ _ _ i rfl rfl (ix5 (0 : Fin 1) (i 1) (i 2) (i 3) (i 4)) (fun b hb => ?_) ?_).trans
      (row cv hv v s₁ h₁ i)
    · fin_cases b
      · exact absurd rfl hb
      all_goals rfl
    · show 0 + 1 = (i 0).val
      omega

end Cert.Kernel.Hand

end
-- ==== Proof.lean ====
/-
  Hand-written, untrusted. The claims about the append of one token to fresh key and value caches: the kernel's program and the
  reference each run to the end, leave their arguments unchanged and every counter at zero, and end with the same result words.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Reference
public import Idealize.ShloMosaic.Adequacy
public import Idealize.ShloMosaic.Init
public import proofs.«01_k».proof.Proof.Value

@[expose] public section

noncomputable section

namespace Cert.Proof

open Idealize.ShloMosaic Idealize.ShloMosaic.TcCoe Idealize.SL.Sem Cert.Kernel

/-- From any memory the kernel's program runs without fault, leaves its arguments unchanged and every counter at zero. -/
theorem frame_kernel : Cert.quiescent_Kernel (hKernel := Gen.facts) := fun m g _ =>
  (θ_run defs _ _).mono (fun _ h => ⟨Hand.ends_args h, h.2⟩) (Hand.run_main m g)

/-- From any memory the reference runs without fault, leaves its arguments unchanged and every counter at zero. -/
theorem frame_reference : Cert.quiescent_Reference (hReference := Cert.Reference.Gen.facts) := fun m g _ => by
  hlo_run
  · exact fun _ => ⟨trivial, trivial, trivial, trivial⟩
  · exact sem_eq_zero_of_no_sems rfl _

/-- Over caches that are zero past row 0 the kernel and the reference end with the same words in the result. -/
theorem bitexact : Cert.bitexact_Kernel_Reference_pre_fresh_rows (hKernel := Gen.facts) (hReference := Cert.Reference.Gen.facts)
    (hPre_fresh_rows := Hand.pre_facts) := by
  intro m g m' g' hpre hagree
  refine ⟨fun c => Hand.expected (m ((c : Thread nD τ).loc main_arg0)) (m ((c : Thread nD τ).loc main_arg1)), ?_, ?_⟩
  · refine (θ_run defs _ _).mono (fun r h c => ⟨?_, Hand.ends_args h c⟩) (Hand.run_main m g)
    exact (Hand.ends_result h c).trans (Hand.kernel_value m c)
  · hlo_run
    obtain ⟨hk, hv⟩ := Hand.fresh_of_pre _ _ _ _ (hpre c)
    refine Hand.stacked_value _ _ _ _ hk (by rw [(hagree c).2.2.2]; exact hv) _ _ (fun a => ?_) (fun a => ?_)
    all_goals fin_cases a <;> rfl

/-- Everything claimed. The frames hold of any memory, so also of those that meet the precondition. -/
theorem claim : Cert.Claim := ⟨Gen.facts, Cert.Reference.Gen.facts, Hand.pre_facts,
  frame_kernel, fun m g _ => frame_kernel m g trivial, frame_reference, fun m g _ => frame_reference m g trivial, bitexact⟩

end Cert.Proof

end
